-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gla_finite [hPre_gla_finite : Cert.Pre_gla_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gla_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_gla_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_gla_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_gla_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gla_finite [hPre_gla_finite : Cert.Pre_gla_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gla_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_gla_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_gla_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_gla_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_up_sums_nonneg [hPre_up_sums_nonneg : Cert.Pre_up_sums_nonneg.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_up_sums_nonneg.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_up_sums_nonneg [hPre_up_sums_nonneg : Cert.Pre_up_sums_nonneg.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_up_sums_nonneg.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_in_sums_nonneg [hPre_in_sums_nonneg : Cert.Pre_in_sums_nonneg.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_in_sums_nonneg.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_in_sums_nonneg [hPre_in_sums_nonneg : Cert.Pre_in_sums_nonneg.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_in_sums_nonneg.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_gla_finite [hKernelIdeal : Cert.KernelIdeal.Facts] [hPre_gla_finite : Cert.Pre_gla_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gla_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_gla_finite [hReferenceIdeal : Cert.ReferenceIdeal.Facts] [hPre_gla_finite : Cert.Pre_gla_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gla_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_up_sums_nonneg [hKernel2Ideal : Cert.Kernel2Ideal.Facts] [hPre_up_sums_nonneg : Cert.Pre_up_sums_nonneg.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_up_sums_nonneg m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_up_sums_nonneg [hReference2Ideal : Cert.Reference2Ideal.Facts] [hPre_up_sums_nonneg : Cert.Pre_up_sums_nonneg.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_up_sums_nonneg m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_in_sums_nonneg [hKernel5Ideal : Cert.Kernel5Ideal.Facts] [hPre_in_sums_nonneg : Cert.Pre_in_sums_nonneg.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_in_sums_nonneg m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_in_sums_nonneg [hReference5Ideal : Cert.Reference5Ideal.Facts] [hPre_in_sums_nonneg : Cert.Pre_in_sums_nonneg.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_in_sums_nonneg m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal_pre_gla_finite [hKernelIdeal : Cert.KernelIdeal.Facts] [hReferenceIdeal : Cert.ReferenceIdeal.Facts] [hPre_gla_finite : Cert.Pre_gla_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gla_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_up_sums_nonneg [hKernel2Ideal : Cert.Kernel2Ideal.Facts] [hReference2Ideal : Cert.Reference2Ideal.Facts] [hPre_up_sums_nonneg : Cert.Pre_up_sums_nonneg.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_up_sums_nonneg m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_v7) = v1 c
          ∧ r.2.mem ((c.tc : Thread Cert.Reference3Ideal.nD Cert.Reference3Ideal.τ).loc Cert.Reference3Ideal.main_v10) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_in_sums_nonneg [hKernel5Ideal : Cert.Kernel5Ideal.Facts] [hReference5Ideal : Cert.Reference5Ideal.Facts] [hPre_in_sums_nonneg : Cert.Pre_in_sums_nonneg.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_in_sums_nonneg m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_v21) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_gla_finite : Cert.Pre_gla_finite.Facts) (hPre_up_sums_nonneg : Cert.Pre_up_sums_nonneg.Facts) (hPre_in_sums_nonneg : Cert.Pre_in_sums_nonneg.Facts),
    quiescent_Kernel (hKernel := hKernel)
    ∧ quiescent_KernelIdeal (hKernelIdeal := hKernelIdeal)
    ∧ quiescent_KernelIdeal_pre_gla_finite (hKernelIdeal := hKernelIdeal) (hPre_gla_finite := hPre_gla_finite)
    ∧ quiescent_ReferenceIdeal (hReferenceIdeal := hReferenceIdeal)
    ∧ quiescent_ReferenceIdeal_pre_gla_finite (hReferenceIdeal := hReferenceIdeal) (hPre_gla_finite := hPre_gla_finite)
    ∧ quiescent_Kernel2 (hKernel2 := hKernel2)
    ∧ quiescent_Kernel2Ideal (hKernel2Ideal := hKernel2Ideal)
    ∧ quiescent_Kernel2Ideal_pre_up_sums_nonneg (hKernel2Ideal := hKernel2Ideal) (hPre_up_sums_nonneg := hPre_up_sums_nonneg)
    ∧ quiescent_Reference2Ideal (hReference2Ideal := hReference2Ideal)
    ∧ quiescent_Reference2Ideal_pre_up_sums_nonneg (hReference2Ideal := hReference2Ideal) (hPre_up_sums_nonneg := hPre_up_sums_nonneg)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_in_sums_nonneg (hKernel5Ideal := hKernel5Ideal) (hPre_in_sums_nonneg := hPre_in_sums_nonneg)
    ∧ quiescent_Reference5Ideal (hReference5Ideal := hReference5Ideal)
    ∧ quiescent_Reference5Ideal_pre_in_sums_nonneg (hReference5Ideal := hReference5Ideal) (hPre_in_sums_nonneg := hPre_in_sums_nonneg)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_gla_finite (hKernelIdeal := hKernelIdeal) (hReferenceIdeal := hReferenceIdeal) (hPre_gla_finite := hPre_gla_finite)
    ∧ preserves_Kernel2_Kernel2Ideal
    ∧ algebraic_Kernel2Ideal_Reference2Ideal_pre_up_sums_nonneg (hKernel2Ideal := hKernel2Ideal) (hReference2Ideal := hReference2Ideal) (hPre_up_sums_nonneg := hPre_up_sums_nonneg)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_in_sums_nonneg (hKernel5Ideal := hKernel5Ideal) (hReference5Ideal := hReference5Ideal) (hPre_in_sums_nonneg := hPre_in_sums_nonneg)
    ∧ preserves_Kernel6_Kernel6Ideal
    ∧ algebraic_Kernel6Ideal_Reference6Ideal (hKernel6Ideal := hKernel6Ideal) (hReference6Ideal := hReference6Ideal)
-- ==== Pre_gla_finite.lean ====
abbrev S2x8320x14336 : Shape := ⟨3, ![2, 8320, 14336]⟩
abbrev S2x8320x128 : Shape := ⟨3, ![2, 8320, 128]⟩
abbrev S16x512 : Shape := ⟨2, ![16, 512]⟩
abbrev S512 : Shape := ⟨1, ![512]⟩
abbrev S1024 : Shape := ⟨1, ![1024]⟩
abbrev S4x4096x16384 : Shape := ⟨3, ![4, 4096, 16384]⟩
abbrev S2x8320x2048 : Shape := ⟨3, ![2, 8320, 2048]⟩
abbrev S_ : Shape := ⟨0, ![]⟩
abbrev S2x8320x16 : Shape := ⟨3, ![2, 8320, 16]⟩

class Facts : Prop where
  slices_S2x8320x14336_S2x8320x2048_0_0_3072 : S2x8320x14336.Slices ![0, 0, 3072] S2x8320x2048
  bitsLt_bf16_f32 : FTy.bits .bf16 < FTy.bits .f32
  bcast_S_S2x8320x2048 : S_.BroadcastsInDim S2x8320x2048 (![] : Fin 0 → Fin S2x8320x2048.rank)
  slices_S2x8320x128_S2x8320x16_0_0_8 : S2x8320x128.Slices ![0, 0, 8] S2x8320x16
  bcast_S_S2x8320x16 : S_.BroadcastsInDim S2x8320x16 (![] : Fin 0 → Fin S2x8320x16.rank)
  bcast_S_S16x512 : S_.BroadcastsInDim S16x512 (![] : Fin 0 → Fin S16x512.rank)
  bcast_S_S512 : S_.BroadcastsInDim S512 (![] : Fin 0 → Fin S512.rank)

variable [Facts]

def fn {F : FTy → Type} [FloatOps F] (main_arg0 : FVec F S2x8320x14336 .bf16) (main_arg1 : FVec F S2x8320x128 .f32) (main_arg2 : FVec F S16x512 .f32) (main_arg3 : FVec F S512 .f32) (main_arg4 : FVec F S1024 .f32) (main_arg5 : FVec F S4x4096x16384 .f32) : IVec S2x8320x2048 1 × IVec S2x8320x16 1 × IVec S16x512 1 × IVec S512 1 :=
  let main_v0 : FVec F S2x8320x2048 .bf16 := (extractStridedSlice S2x8320x2048 ![0, 0, 3072] · slices_S2x8320x14336_S2x8320x2048_0_0_3072) main_arg0
  let main_v1 : FVec F S2x8320x2048 .f32 := (extf .f32 · bitsLt_bf16_f32) main_v0
  let main_v2 : FVec F S2x8320x2048 .f32 := Host.absf main_v1
  let main_cst : FVec F S_ .f32 := constant S_ .f32 0x7F800000#32
  let main_v3 : FVec F S2x8320x2048 .f32 := broadcastInDim S2x8320x2048 ![] bcast_S_S2x8320x2048 main_cst
  let main_v4 : IVec S2x8320x2048 1 := cmpf .olt main_v2 main_v3
  let main_v5 : FVec F S2x8320x16 .f32 := (extractStridedSlice S2x8320x16 ![0, 0, 8] · slices_S2x8320x128_S2x8320x16_0_0_8) main_arg1
  let main_v6 : FVec F S2x8320x16 .f32 := Host.absf main_v5
  let main_cst_0 : FVec F S_ .f32 := constant S_ .f32 0x7F800000#32
  let main_v7 : FVec F S2x8320x16 .f32 := broadcastInDim S2x8320x16 ![] bcast_S_S2x8320x16 main_cst_0
  let main_v8 : IVec S2x8320x16 1 := cmpf .olt main_v6 main_v7
  let main_v9 : FVec F S16x512 .f32 := Host.absf main_arg2
  let main_cst_1 : FVec F S_ .f32 := constant S_ .f32 0x7F800000#32
  let main_v10 : FVec F S16x512 .f32 := broadcastInDim S16x512 ![] bcast_S_S16x512 main_cst_1
  let main_v11 : IVec S16x512 1 := cmpf .olt main_v9 main_v10
  let main_v12 : FVec F S512 .f32 := Host.absf main_arg3
  let main_cst_2 : FVec F S_ .f32 := constant S_ .f32 0x7F800000#32
  let main_v13 : FVec F S512 .f32 := broadcastInDim S512 ![] bcast_S_S512 main_cst_2
  let main_v14 : IVec S512 1 := cmpf .olt main_v12 main_v13
  (main_v4, main_v8, main_v11, main_v14)
-- ==== Pre_in_sums_nonneg.lean ====
abbrev S16640x4096 : Shape := ⟨2, ![16640, 4096]⟩
abbrev S16640x128 : Shape := ⟨2, ![16640, 128]⟩
abbrev S14336x4096 : Shape := ⟨2, ![14336, 4096]⟩
abbrev S4x4096x14360 : Shape := ⟨3, ![4, 4096, 14360]⟩
abbrev S_ : Shape := ⟨0, ![]⟩

class Facts : Prop where
  bcast_S_S16640x128 : S_.BroadcastsInDim S16640x128 (![] : Fin 0 → Fin S16640x128.rank)

variable [Facts]

def fn {F : FTy → Type} [FloatOps F] (main_arg0 : FVec F S16640x4096 .bf16) (main_arg1 : FVec F S16640x128 .f32) (main_arg2 : FVec F S14336x4096 .bf16) (main_arg3 : FVec F S4x4096x14360 .f32) : IVec S16640x128 1 :=
  let main_cst : FVec F S_ .f32 := constant S_ .f32 0x00000000#32
  let main_v0 : FVec F S16640x128 .f32 := broadcastInDim S16640x128 ![] bcast_S_S16640x128 main_cst
  let main_v1 : IVec S16640x128 1 := cmpf .oge main_arg1 main_v0
  main_v1
-- ==== Pre_up_sums_nonneg.lean ====
abbrev S16640x4096 : Shape := ⟨2, ![16640, 4096]⟩
abbrev S16640x128 : Shape := ⟨2, ![16640, 128]⟩
abbrev S4096x16384 : Shape := ⟨2, ![4096, 16384]⟩
abbrev S4x4096x4096 : Shape := ⟨3, ![4, 4096, 4096]⟩
abbrev S_ : Shape := ⟨0, ![]⟩

class Facts : Prop where
  bcast_S_S16640x128 : S_.BroadcastsInDim S16640x128 (![] : Fin 0 → Fin S16640x128.rank)

variable [Facts]

def fn {F : FTy → Type} [FloatOps F] (main_arg0 : FVec F S16640x4096 .bf16) (main_arg1 : FVec F S16640x128 .f32) (main_arg2 : FVec F S4096x16384 .bf16) (main_arg3 : FVec F S4x4096x4096 .f32) : IVec S16640x128 1 :=
  let main_cst : FVec F S_ .f32 := constant S_ .f32 0x00000000#32
  let main_v0 : FVec F S16640x128 .f32 := broadcastInDim S16640x128 ![] bcast_S_S16640x128 main_cst
  let main_v1 : IVec S16640x128 1 := cmpf .oge main_arg1 main_v0
  main_v1
-- ==== Kernel.lean ====
abbrev S2x8320x14336 : Shape := ⟨3, ![2, 8320, 14336]⟩
abbrev S2x8320x128 : Shape := ⟨3, ![2, 8320, 128]⟩
abbrev S16x512 : Shape := ⟨2, ![16, 512]⟩
abbrev S512 : Shape := ⟨1, ![512]⟩
abbrev S1024 : Shape := ⟨1, ![1024]⟩
abbrev S4x4096x16384 : Shape := ⟨3, ![4, 4096, 16384]⟩
abbrev S_ : Shape := ⟨0, ![]⟩
abbrev S128x512 : Shape := ⟨2, ![128, 512]⟩
abbrev S1 : Shape := ⟨1, ![1]⟩
abbrev S1x512 : Shape := ⟨2, ![1, 512]⟩
abbrev S1x1024 : Shape := ⟨2, ![1, 1024]⟩
abbrev S2x8320x1024 : Shape := ⟨3, ![2, 8320, 1024]⟩
abbrev S4096x16384 : Shape := ⟨2, ![4096, 16384]⟩
abbrev S2x128x1024 : Shape := ⟨3, ![2, 128, 1024]⟩
abbrev S2x128x128 : Shape := ⟨3, ![2, 128, 128]⟩
abbrev S1x64x16384 : Shape := ⟨3, ![1, 64, 16384]⟩
abbrev S64x16384 : Shape := ⟨2, ![64, 16384]⟩
abbrev S2x4x128x256 : Shape := ⟨4, ![2, 4, 128, 256]⟩
abbrev S128x128 : Shape := ⟨2, ![128, 128]⟩
abbrev S1x128x128 : Shape := ⟨3, ![1, 128, 128]⟩
abbrev S1x128x512 : Shape := ⟨3, ![1, 128, 512]⟩
abbrev S16x8x512 : Shape := ⟨3, ![16, 8, 512]⟩
abbrev S16x1x512 : Shape := ⟨3, ![16, 1, 512]⟩
abbrev S8x16x512 : Shape := ⟨3, ![8, 16, 512]⟩
abbrev S8x1x512 : Shape := ⟨3, ![8, 1, 512]⟩
abbrev S4x32x512 : Shape := ⟨3, ![4, 32, 512]⟩
abbrev S4x1x512 : Shape := ⟨3, ![4, 1, 512]⟩
abbrev S2x64x512 : Shape := ⟨3, ![2, 64, 512]⟩
abbrev S2x1x512 : Shape := ⟨3, ![2, 1, 512]⟩
abbrev S1x1x512 : Shape := ⟨3, ![1, 1, 512]⟩
abbrev S128 : Shape := ⟨1, ![128]⟩
abbrev S128x1 : Shape := ⟨2, ![128, 1]⟩
abbrev S1x128x256 : Shape := ⟨3, ![1, 128, 256]⟩
abbrev S128x256 : Shape := ⟨2, ![128, 256]⟩
abbrev S1x1x128x256 : Shape := ⟨4, ![1, 1, 128, 256]⟩
abbrev S1x128 : Shape := ⟨2, ![1, 128]⟩
abbrev S1x256 : Shape := ⟨2, ![1, 256]⟩

abbrev nBuf : Space → Nat
  | .hbm => 16
  | .vmem => 18
  | .smem => 0
  | _ => 0

abbrev bufTy : (tb : Table) → Fin (tcTables nBuf tb) → BufTy
  | .hbm, ⟨0, _⟩ => ⟨S2x8320x14336, .bf16⟩
  | .hbm, ⟨1, _⟩ => ⟨S2x8320x128, .f32⟩
  | .hbm, ⟨2, _⟩ => ⟨S16x512, .f32⟩
  | .hbm, ⟨3, _⟩ => ⟨S512, .f32⟩
  | .hbm, ⟨4, _⟩ => ⟨S1024, .f32⟩
  | .hbm, ⟨5, _⟩ => ⟨S4x4096x16384, .f32⟩
  | .hbm, ⟨6, _⟩ => ⟨S_, .f32⟩
  | .hbm, ⟨7, _⟩ => ⟨S128x512, .f32⟩
  | .hbm, ⟨8, _⟩ => ⟨S_, .i32⟩
  | .hbm, ⟨9, _⟩ => ⟨S1, .i32⟩
  | .hbm, ⟨10, _⟩ => ⟨S128x512, .f32⟩
  | .hbm, ⟨11, _⟩ => ⟨S128x512, .bf16⟩
  | .hbm, ⟨12, _⟩ => ⟨S1x512, .f32⟩
  | .hbm, ⟨13, _⟩ => ⟨S1x1024, .f32⟩
  | .hbm, ⟨14, _⟩ => ⟨S2x8320x1024, .bf16⟩
  | .hbm, ⟨15, _⟩ => ⟨S4096x16384, .bf16⟩
  | .local _ .vmem, ⟨0, _⟩ => ⟨S2x128x1024, .bf16⟩
  | .local _ .vmem, ⟨1, _⟩ => ⟨S2x128x1024, .bf16⟩
  | .local _ .vmem, ⟨2, _⟩ => ⟨S2x128x1024, .bf16⟩
  | .local _ .vmem, ⟨3, _⟩ => ⟨S2x128x1024, .bf16⟩
  | .local _ .vmem, ⟨4, _⟩ => ⟨S2x128x1024, .bf16⟩
  | .local _ .vmem, ⟨5, _⟩ => ⟨S2x128x1024, .bf16⟩
  | .local _ .vmem, ⟨6, _⟩ => ⟨S2x128x128, .f32⟩
  | .local _ .vmem, ⟨7, _⟩ => ⟨S2x128x128, .f32⟩
  | .local _ .vmem, ⟨8, _⟩ => ⟨S128x512, .bf16⟩
  | .local _ .vmem, ⟨9, _⟩ => ⟨S1x512, .f32⟩
  | .local _ .vmem, ⟨10, _⟩ => ⟨S1x1024, .f32⟩
  | .local _ .vmem, ⟨11, _⟩ => ⟨S1x64x16384, .f32⟩
  | .local _ .vmem, ⟨12, _⟩ => ⟨S1x64x16384, .f32⟩
  | .local _ .vmem, ⟨13, _⟩ => ⟨S2x128x1024, .bf16⟩
  | .local _ .vmem, ⟨14, _⟩ => ⟨S2x128x1024, .bf16⟩
  | .local _ .vmem, ⟨15, _⟩ => ⟨S64x16384, .bf16⟩
  | .local _ .vmem, ⟨16, _⟩ => ⟨S64x16384, .bf16⟩
  | .local _ .vmem, ⟨17, _⟩ => ⟨S2x4x128x256, .f32⟩
  | _, _ => ⟨S2x8320x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![65], ![false]⟩

def cc0_transform_0 (i : grid0.Coords) : Fin 3 → Nat :=
  let arg0 : BitVec 32 := BitVec.ofNat 32 (i 0).val
  let c0_i32 : BitVec 32 := 0#32
  let c3_i32 : BitVec 32 := 3#32
  let c0_i32_0 : BitVec 32 := 0#32
  ![c0_i32.toNat, arg0.toNat, c3_i32.toNat]

def cc0_transform_1 (i : grid0.Coords) : Fin 3 → Nat :=
  let arg0 : BitVec 32 := BitVec.ofNat 32 (i 0).val
  let c0_i32 : BitVec 32 := 0#32
  let c4_i32 : BitVec 32 := 4#32
  let c0_i32_0 : BitVec 32 := 0#32
  ![c0_i32.toNat, arg0.toNat, c4_i32.toNat]

def cc0_transform_2 (i : grid0.Coords) : Fin 3 → Nat :=
  let arg0 : BitVec 32 := BitVec.ofNat 32 (i 0).val
  let c0_i32 : BitVec 32 := 0#32
  let c5_i32 : BitVec 32 := 5#32
  let c0_i32_0 : BitVec 32 := 0#32
  ![c0_i32.toNat, arg0.toNat, c5_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![c0_i32.toNat, v0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

abbrev stage0_0 : Fin 2 → Memref sig .tc .vmem S2x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x64x16384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x16384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S2x8320x14336 : Shape := ⟨3, ![2, 8320, 14336]⟩
abbrev S2x8320x128 : Shape := ⟨3, ![2, 8320, 128]⟩
abbrev S16x512 : Shape := ⟨2, ![16, 512]⟩
abbrev S512 : Shape := ⟨1, ![512]⟩
abbrev S1024 : Shape := ⟨1, ![1024]⟩
abbrev S4x4096x16384 : Shape := ⟨3, ![4, 4096, 16384]⟩
abbrev S2x8320x512 : Shape := ⟨3, ![2, 8320, 512]⟩
abbrev S2x8320x1024 : Shape := ⟨3, ![2, 8320, 1024]⟩
abbrev S2x8320x16 : Shape := ⟨3, ![2, 8320, 16]⟩
abbrev S1x1x512 : Shape := ⟨3, ![1, 1, 512]⟩
abbrev S_ : Shape := ⟨0, ![]⟩
abbrev S2x8320x4x128 : Shape := ⟨4, ![2, 8320, 4, 128]⟩
abbrev S2x8320x4x256 : Shape := ⟨4, ![2, 8320, 4, 256]⟩
abbrev S2x4x128x256 : Shape := ⟨4, ![2, 4, 128, 256]⟩
abbrev S8320x2x4x128 : Shape := ⟨4, ![8320, 2, 4, 128]⟩
abbrev S8320x2x4x256 : Shape := ⟨4, ![8320, 2, 4, 256]⟩
abbrev S1x2x4x128 : Shape := ⟨4, ![1, 2, 4, 128]⟩
abbrev S2x4x128 : Shape := ⟨3, ![2, 4, 128]⟩
abbrev S1x2x4x256 : Shape := ⟨4, ![1, 2, 4, 256]⟩
abbrev S2x4x256 : Shape := ⟨3, ![2, 4, 256]⟩
abbrev S2x4x128x1 : Shape := ⟨4, ![2, 4, 128, 1]⟩
abbrev S2x4x1x256 : Shape := ⟨4, ![2, 4, 1, 256]⟩
abbrev S2x8320x4 : Shape := ⟨3, ![2, 8320, 4]⟩
abbrev S2x8320x4x1 : Shape := ⟨4, ![2, 8320, 4, 1]⟩
abbrev S1x1x1024 : Shape := ⟨3, ![1, 1, 1024]⟩
abbrev S1x4096x16384 : Shape := ⟨3, ![1, 4096, 16384]⟩
abbrev S4096x16384 : Shape := ⟨2, ![4096, 16384]⟩

abbrev nBuf : Space → Nat
  | .hbm => 137
  | .vmem => 0
  | .smem => 0
  | _ => 0

abbrev hbmTy0_0 (i : Nat) : BufTy := match i % 128 with
  | 0 => ⟨S2x8320x14336, .bf16⟩
  | 1 => ⟨S2x8320x128, .f32⟩
  | 2 => ⟨S16x512, .f32⟩
  | 3 => ⟨S512, .f32⟩
  | 4 => ⟨S1024, .f32⟩
  | 5 => ⟨S4x4096x16384, .f32⟩
  | 6 => ⟨S2x8320x512, .bf16⟩
  | 7 => ⟨S2x8320x512, .f32⟩
  | 8 => ⟨S2x8320x512, .bf16⟩
  | 9 => ⟨S2x8320x512, .f32⟩
  | 10 => ⟨S2x8320x1024, .bf16⟩
  | 11 => ⟨S2x8320x1024, .f32⟩
  | 12 => ⟨S2x8320x16, .f32⟩
  | 13 => ⟨S2x8320x512, .f32⟩
  | 14 => ⟨S1x1x512, .f32⟩
  | 15 => ⟨S2x8320x512, .f32⟩
  | 16 => ⟨S2x8320x512, .f32⟩
  | 17 => ⟨S2x8320x512, .f32⟩
  | 18 => ⟨S_, .f32⟩
  | 19 => ⟨S2x8320x512, .f32⟩
  | 20 => ⟨S2x8320x512, .f32⟩
  | 21 => ⟨S2x8320x512, .f32⟩
  | 22 => ⟨S2x8320x512, .f32⟩
  | 23 => ⟨S2x8320x512, .i1⟩
  | 24 => ⟨S2x8320x512, .f32⟩
  | 25 => ⟨S2x8320x512, .f32⟩
  | 26 => ⟨S2x8320x512, .f32⟩
  | 27 => ⟨S2x8320x512, .f32⟩
  | 28 => ⟨S2x8320x512, .f32⟩
  | 29 => ⟨S2x8320x512, .f32⟩
  | 30 => ⟨S2x8320x512, .f32⟩
  | 31 => ⟨S2x8320x512, .f32⟩
  | 32 => ⟨S2x8320x512, .f32⟩
  | 33 => ⟨S_, .f32⟩
  | 34 => ⟨S2x8320x512, .f32⟩
  | 35 => ⟨S2x8320x512, .f32⟩
  | 36 => ⟨S_, .f32⟩
  | 37 => ⟨S2x8320x512, .f32⟩
  | 38 => ⟨S2x8320x512, .f32⟩
  | 39 => ⟨S2x8320x4x128, .f32⟩
  | 40 => ⟨S2x8320x4x128, .f32⟩
  | 41 => ⟨S2x8320x4x256, .f32⟩
  | 42 => ⟨S2x8320x512, .f32⟩
  | 43 => ⟨S2x8320x4x128, .f32⟩
  | 44 => ⟨S_, .f32⟩
  | 45 => ⟨S2x4x128x256, .f32⟩
  | 46 => ⟨S8320x2x4x128, .f32⟩
  | 47 => ⟨S8320x2x4x128, .f32⟩
  | 48 => ⟨S8320x2x4x256, .f32⟩
  | 49 => ⟨S8320x2x4x128, .f32⟩
  | 50 => ⟨S_, .f32⟩
  | 51 => ⟨S8320x2x4x256, .f32⟩
  | 52 => ⟨S_, .i32⟩
  | 53 => ⟨S8320x2x4x128, .f32⟩
  | 54 => ⟨S8320x2x4x128, .f32⟩
  | 55 => ⟨S8320x2x4x256, .f32⟩
  | 56 => ⟨S8320x2x4x128, .f32⟩
  | 57 => ⟨S_, .i32⟩
  | 58 => ⟨S2x4x128x256, .f32⟩
  | 59 => ⟨S8320x2x4x256, .f32⟩
  | 60 => ⟨S_, .i32⟩
  | 61 => ⟨S_, .i1⟩
  | 62 => ⟨S_, .i32⟩
  | 63 => ⟨S_, .i32⟩
  | 64 => ⟨S_, .i32⟩
  | 65 => ⟨S1x2x4x128, .f32⟩
  | 66 => ⟨S2x4x128, .f32⟩
  | 67 => ⟨S_, .i32⟩
  | 68 => ⟨S_, .i32⟩
  | 69 => ⟨S_, .i32⟩
  | 70 => ⟨S1x2x4x128, .f32⟩
  | 71 => ⟨S2x4x128, .f32⟩
  | 72 => ⟨S_, .i32⟩
  | 73 => ⟨S_, .i32⟩
  | 74 => ⟨S_, .i32⟩
  | 75 => ⟨S1x2x4x256, .f32⟩
  | 76 => ⟨S2x4x256, .f32⟩
  | 77 => ⟨S_, .i32⟩
  | 78 => ⟨S_, .i32⟩
  | 79 => ⟨S_, .i32⟩
  | 80 => ⟨S1x2x4x128, .f32⟩
  | 81 => ⟨S2x4x128, .f32⟩
  | 82 => ⟨S2x4x128x1, .f32⟩
  | 83 => ⟨S2x4x128x256, .f32⟩
  | 84 => ⟨S2x4x128x256, .f32⟩
  | 85 => ⟨S2x4x128x1, .f32⟩
  | 86 => ⟨S2x4x1x256, .f32⟩
  | 87 => ⟨S2x4x128x256, .f32⟩
  | 88 => ⟨S2x4x128x256, .f32⟩
  | 89 => ⟨S2x4x128x256, .f32⟩
  | 90 => ⟨S2x4x128x256, .f32⟩
  | 91 => ⟨S2x4x128x1, .f32⟩
  | 92 => ⟨S2x4x128x256, .f32⟩
  | 93 => ⟨S2x4x128x256, .f32⟩
  | 94 => ⟨S_, .f32⟩
  | 95 => ⟨S2x4x256, .f32⟩
  | 96 => ⟨S1x2x4x256, .f32⟩
  | 97 => ⟨S_, .i32⟩
  | 98 => ⟨S_, .i32⟩
  | 99 => ⟨S_, .i32⟩
  | 100 => ⟨S8320x2x4x256, .f32⟩
  | 101 => ⟨S_, .i32⟩
  | 102 => ⟨S_, .i32⟩
  | 103 => ⟨S2x8320x4x256, .f32⟩
  | 104 => ⟨S2x8320x4x256, .f32⟩
  | 105 => ⟨S_, .f32⟩
  | 106 => ⟨S2x8320x4, .f32⟩
  | 107 => ⟨S2x8320x4x1, .f32⟩
  | 108 => ⟨S_, .f32⟩
  | 109 => ⟨S2x8320x4x1, .f32⟩
  | 110 => ⟨S2x8320x4x1, .f32⟩
  | 111 => ⟨S_, .f32⟩
  | 112 => ⟨S2x8320x4x1, .f32⟩
  | 113 => ⟨S2x8320x4x1, .f32⟩
  | 114 => ⟨S2x8320x4x1, .f32⟩
  | 115 => ⟨S2x8320x4x256, .f32⟩
  | 116 => ⟨S2x8320x4x256, .f32⟩
  | 117 => ⟨S2x8320x1024, .bf16⟩
  | 118 => ⟨S2x8320x1024, .f32⟩
  | 119 => ⟨S2x8320x1024, .f32⟩
  | 120 => ⟨S1x1x1024, .f32⟩
  | 121 => ⟨S2x8320x1024, .f32⟩
  | 122 => ⟨S2x8320x1024, .f32⟩
  | 123 => ⟨S2x8320x1024, .f32⟩
  | 124 => ⟨S2x8320x1024, .f32⟩
  | 125 => ⟨S_, .f32⟩
  | 126 => ⟨S2x8320x1024, .f32⟩
  | 127 => ⟨S2x8320x1024, .f32⟩
  | _ => ⟨S2x8320x14336, .bf16⟩

abbrev hbmTy0_1 (i : Nat) : BufTy := match i % 128 with
  | 0 => ⟨S_, .f32⟩
  | 1 => ⟨S2x8320x1024, .f32⟩
  | 2 => ⟨S2x8320x1024, .f32⟩
  | 3 => ⟨S2x8320x1024, .f32⟩
  | 4 => ⟨S2x8320x1024, .f32⟩
  | 5 => ⟨S2x8320x1024, .bf16⟩
  | 6 => ⟨S1x4096x16384, .f32⟩
  | 7 => ⟨S4096x16384, .f32⟩
  | 8 => ⟨S4096x16384, .bf16⟩
  | _ => ⟨S2x8320x14336, .bf16⟩

abbrev hbmTy (i : Nat) : BufTy := match i / 128 with
  | 0 => hbmTy0_0 i
  | 1 => hbmTy0_1 i
  | _ => ⟨S2x8320x14336, .bf16⟩

abbrev bufTy : (tb : Table) → Fin (tcTables nBuf tb) → BufTy
  | .hbm, ⟨i, _⟩ => hbmTy i
  | _, _ => ⟨S2x8320x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v11 : Ref sig .tc := ⟨.hbm, 32, rfl⟩
abbrev main_cst : Ref sig .tc := ⟨.hbm, 33, rfl⟩
abbrev main_v12 : Ref sig .tc := ⟨.hbm, 34, rfl⟩
abbrev main_v13 : Ref sig .tc := ⟨.hbm, 35, rfl⟩
abbrev main_cst_0 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_1 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_2 : Ref sig .tc := ⟨.hbm, 50, rfl⟩
abbrev main_v26 : Ref sig .tc := ⟨.hbm, 51, rfl⟩
abbrev main_c : Ref sig .tc := ⟨.hbm, 52, rfl⟩
abbrev main_v27_0 : Ref sig .tc := ⟨.hbm, 53, rfl⟩
abbrev main_v27_1 : Ref sig .tc := ⟨.hbm, 54, rfl⟩
abbrev main_v27_2 : Ref sig .tc := ⟨.hbm, 55, rfl⟩
abbrev main_v27_3 : Ref sig .tc := ⟨.hbm, 56, rfl⟩
abbrev main_v27_4 : Ref sig .tc := ⟨.hbm, 57, rfl⟩
abbrev main_v27_5 : Ref sig .tc := ⟨.hbm, 58, rfl⟩
abbrev main_v27_6 : Ref sig .tc := ⟨.hbm, 59, rfl⟩
abbrev main_while0c_c_12 : Ref sig .tc := ⟨.hbm, 60, rfl⟩
abbrev main_while0c_v51 : Ref sig .tc := ⟨.hbm, 61, rfl⟩
abbrev main_while0b_call1_c : Ref sig .tc := ⟨.hbm, 62, rfl⟩
abbrev main_while0b_call1_c_0 : Ref sig .tc := ⟨.hbm, 63, rfl⟩
abbrev main_while0b_call1_c_1 : Ref sig .tc := ⟨.hbm, 64, rfl⟩
abbrev main_while0b_call1_v0 : Ref sig .tc := ⟨.hbm, 65, rfl⟩
abbrev main_while0b_v51 : Ref sig .tc := ⟨.hbm, 66, rfl⟩
abbrev main_while0b_call2_c : Ref sig .tc := ⟨.hbm, 67, rfl⟩
abbrev main_while0b_call2_c_0 : Ref sig .tc := ⟨.hbm, 68, rfl⟩
abbrev main_while0b_call2_c_1 : Ref sig .tc := ⟨.hbm, 69, rfl⟩
abbrev main_while0b_call2_v0 : Ref sig .tc := ⟨.hbm, 70, rfl⟩
abbrev main_while0b_v52 : Ref sig .tc := ⟨.hbm, 71, rfl⟩
abbrev main_while0b_call3_c : Ref sig .tc := ⟨.hbm, 72, rfl⟩
abbrev main_while0b_call3_c_0 : Ref sig .tc := ⟨.hbm, 73, rfl⟩
abbrev main_while0b_call3_c_1 : Ref sig .tc := ⟨.hbm, 74, rfl⟩
abbrev main_while0b_call3_v0 : Ref sig .tc := ⟨.hbm, 75, rfl⟩
abbrev main_while0b_v53 : Ref sig .tc := ⟨.hbm, 76, rfl⟩
abbrev main_while0b_call4_c : Ref sig .tc := ⟨.hbm, 77, rfl⟩
abbrev main_while0b_call4_c_0 : Ref sig .tc := ⟨.hbm, 78, rfl⟩
abbrev main_while0b_call4_c_1 : Ref sig .tc := ⟨.hbm, 79, rfl⟩
abbrev main_while0b_call4_v0 : Ref sig .tc := ⟨.hbm, 80, rfl⟩
abbrev main_while0b_v54 : Ref sig .tc := ⟨.hbm, 81, rfl⟩
abbrev main_while0b_v55 : Ref sig .tc := ⟨.hbm, 82, rfl⟩
abbrev main_while0b_v56 : Ref sig .tc := ⟨.hbm, 83, rfl⟩
abbrev main_while0b_v57 : Ref sig .tc := ⟨.hbm, 84, rfl⟩
abbrev main_while0b_v58 : Ref sig .tc := ⟨.hbm, 85, rfl⟩
abbrev main_while0b_v59 : Ref sig .tc := ⟨.hbm, 86, rfl⟩
abbrev main_while0b_v60 : Ref sig .tc := ⟨.hbm, 87, rfl⟩
abbrev main_while0b_v61 : Ref sig .tc := ⟨.hbm, 88, rfl⟩
abbrev main_while0b_v62 : Ref sig .tc := ⟨.hbm, 89, rfl⟩
abbrev main_while0b_v63 : Ref sig .tc := ⟨.hbm, 90, rfl⟩
abbrev main_while0b_v64 : Ref sig .tc := ⟨.hbm, 91, rfl⟩
abbrev main_while0b_v65 : Ref sig .tc := ⟨.hbm, 92, rfl⟩
abbrev main_while0b_v66 : Ref sig .tc := ⟨.hbm, 93, rfl⟩
abbrev main_while0b_cst_12 : Ref sig .tc := ⟨.hbm, 94, rfl⟩
abbrev main_while0b_v67 : Ref sig .tc := ⟨.hbm, 95, rfl⟩
abbrev main_while0b_call5_v0 : Ref sig .tc := ⟨.hbm, 96, rfl⟩
abbrev main_while0b_call5_c : Ref sig .tc := ⟨.hbm, 97, rfl⟩
abbrev main_while0b_call5_c_0 : Ref sig .tc := ⟨.hbm, 98, rfl⟩
abbrev main_while0b_call5_c_1 : Ref sig .tc := ⟨.hbm, 99, rfl⟩
abbrev main_while0b_v68 : Ref sig .tc := ⟨.hbm, 100, rfl⟩
abbrev main_while0b_c_13 : Ref sig .tc := ⟨.hbm, 101, rfl⟩
abbrev main_while0b_v69 : Ref sig .tc := ⟨.hbm, 102, rfl⟩
abbrev main_v28 : Ref sig .tc := ⟨.hbm, 103, rfl⟩
abbrev main_v29 : Ref sig .tc := ⟨.hbm, 104, rfl⟩
abbrev main_cst_3 : Ref sig .tc := ⟨.hbm, 105, rfl⟩
abbrev main_v30 : Ref sig .tc := ⟨.hbm, 106, rfl⟩
abbrev main_v31 : Ref sig .tc := ⟨.hbm, 107, rfl⟩
abbrev main_cst_4 : Ref sig .tc := ⟨.hbm, 108, rfl⟩
abbrev main_v32 : Ref sig .tc := ⟨.hbm, 109, rfl⟩
abbrev main_v33 : Ref sig .tc := ⟨.hbm, 110, rfl⟩
abbrev main_cst_5 : Ref sig .tc := ⟨.hbm, 111, rfl⟩
abbrev main_v34 : Ref sig .tc := ⟨.hbm, 112, rfl⟩
abbrev main_v35 : Ref sig .tc := ⟨.hbm, 113, rfl⟩
abbrev main_v36 : Ref sig .tc := ⟨.hbm, 114, rfl⟩
abbrev main_v37 : Ref sig .tc := ⟨.hbm, 115, rfl⟩
abbrev main_v38 : Ref sig .tc := ⟨.hbm, 116, rfl⟩
abbrev main_v39 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩
abbrev main_call6_v0 : Ref sig .tc := ⟨.hbm, 123, rfl⟩
abbrev main_call6_v1 : Ref sig .tc := ⟨.hbm, 124, rfl⟩
abbrev main_call6_cst : Ref sig .tc := ⟨.hbm, 125, rfl⟩
abbrev main_call6_v2 : Ref sig .tc := ⟨.hbm, 126, rfl⟩
abbrev main_call6_v3 : Ref sig .tc := ⟨.hbm, 127, rfl⟩
abbrev main_call6_cst_0 : Ref sig .tc := ⟨.hbm, 128, rfl⟩
abbrev main_call6_v4 : Ref sig .tc := ⟨.hbm, 129, rfl⟩
abbrev main_call6_v5 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_v48 : Ref sig .tc := ⟨.hbm, 134, rfl⟩
abbrev main_v49 : Ref sig .tc := ⟨.hbm, 135, rfl⟩
abbrev main_v50 : Ref sig .tc := ⟨.hbm, 136, rfl⟩

abbrev nD : Nat := 1
abbrev τ : Topo := Topo.v7x

variable {F : FTy → Type} [FloatOps F]

abbrev main_while0_count : Scf.Loop 32 := ⟨0#32, 8320#32, 1#32⟩
-- ==== Kernel2.lean ====
abbrev S16640x4096 : Shape := ⟨2, ![16640, 4096]⟩
abbrev S16640x128 : Shape := ⟨2, ![16640, 128]⟩
abbrev S4096x16384 : Shape := ⟨2, ![4096, 16384]⟩
abbrev S4x4096x4096 : Shape := ⟨3, ![4, 4096, 4096]⟩
abbrev S16640x16384 : Shape := ⟨2, ![16640, 16384]⟩
abbrev S4096x4096 : Shape := ⟨2, ![4096, 4096]⟩
abbrev S1280x4096 : Shape := ⟨2, ![1280, 4096]⟩
abbrev S4096x1024 : Shape := ⟨2, ![4096, 1024]⟩
abbrev S1280x128 : Shape := ⟨2, ![1280, 128]⟩
abbrev S1x32x4096 : Shape := ⟨3, ![1, 32, 4096]⟩
abbrev S1280x1024 : Shape := ⟨2, ![1280, 1024]⟩
abbrev S32x4096 : Shape := ⟨2, ![32, 4096]⟩
abbrev S1280x1 : Shape := ⟨2, ![1280, 1]⟩
abbrev S1280 : Shape := ⟨1, ![1280]⟩

abbrev nBuf : Space → Nat
  | .hbm => 6
  | .vmem => 13
  | .smem => 0
  | _ => 0

abbrev bufTy : (tb : Table) → Fin (tcTables nBuf tb) → BufTy
  | .hbm, ⟨0, _⟩ => ⟨S16640x4096, .bf16⟩
  | .hbm, ⟨1, _⟩ => ⟨S16640x128, .f32⟩
  | .hbm, ⟨2, _⟩ => ⟨S4096x16384, .bf16⟩
  | .hbm, ⟨3, _⟩ => ⟨S4x4096x4096, .f32⟩
  | .hbm, ⟨4, _⟩ => ⟨S16640x16384, .bf16⟩
  | .hbm, ⟨5, _⟩ => ⟨S4096x4096, .bf16⟩
  | .local _ .vmem, ⟨0, _⟩ => ⟨S1280x4096, .bf16⟩
  | .local _ .vmem, ⟨1, _⟩ => ⟨S1280x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1280x128, .f32⟩
  | .local _ .vmem, ⟨5, _⟩ => ⟨S1280x128, .f32⟩
  | .local _ .vmem, ⟨6, _⟩ => ⟨S1x32x4096, .f32⟩
  | .local _ .vmem, ⟨7, _⟩ => ⟨S1x32x4096, .f32⟩
  | .local _ .vmem, ⟨8, _⟩ => ⟨S1280x1024, .bf16⟩
  | .local _ .vmem, ⟨9, _⟩ => ⟨S1280x1024, .bf16⟩
  | .local _ .vmem, ⟨10, _⟩ => ⟨S32x4096, .bf16⟩
  | .local _ .vmem, ⟨11, _⟩ => ⟨S32x4096, .bf16⟩
  | .local _ .vmem, ⟨12, _⟩ => ⟨S1280x1, .f32⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![13, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c1_i32 : BitVec 32 := 1#32
  let c0_i32 : BitVec 32 := 0#32
  let c0_i32_0 : BitVec 32 := 0#32
  ![c1_i32.toNat, v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c127_i32 : BitVec 32 := 127#32
  let v2 : BitVec 32 := Scalar.minsi v1 c127_i32
  let c0_i32 : BitVec 32 := 0#32
  let c0_i32_0 : BitVec 32 := 0#32
  ![v2.toNat, c0_i32.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1280x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S16640x4096 : Shape := ⟨2, ![16640, 4096]⟩
abbrev S16640x128 : Shape := ⟨2, ![16640, 128]⟩
abbrev S4096x16384 : Shape := ⟨2, ![4096, 16384]⟩
abbrev S4x4096x4096 : Shape := ⟨3, ![4, 4096, 4096]⟩
abbrev S_ : Shape := ⟨0, ![]⟩
abbrev S16640 : Shape := ⟨1, ![16640]⟩
abbrev S16640x1 : Shape := ⟨2, ![16640, 1]⟩
abbrev S16640x16384 : Shape := ⟨2, ![16640, 16384]⟩
abbrev S1x4096x4096 : Shape := ⟨3, ![1, 4096, 4096]⟩
abbrev S4096x4096 : Shape := ⟨2, ![4096, 4096]⟩

abbrev nBuf : Space → Nat
  | .hbm => 27
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S16640x128, .f32⟩
  | .hbm, ⟨2, _⟩ => ⟨S4096x16384, .bf16⟩
  | .hbm, ⟨3, _⟩ => ⟨S4x4096x4096, .f32⟩
  | .hbm, ⟨4, _⟩ => ⟨S_, .f32⟩
  | .hbm, ⟨5, _⟩ => ⟨S16640, .f32⟩
  | .hbm, ⟨6, _⟩ => ⟨S16640x1, .f32⟩
  | .hbm, ⟨7, _⟩ => ⟨S_, .f32⟩
  | .hbm, ⟨8, _⟩ => ⟨S16640x1, .f32⟩
  | .hbm, ⟨9, _⟩ => ⟨S16640x1, .f32⟩
  | .hbm, ⟨10, _⟩ => ⟨S_, .f32⟩
  | .hbm, ⟨11, _⟩ => ⟨S16640x1, .f32⟩
  | .hbm, ⟨12, _⟩ => ⟨S16640x1, .f32⟩
  | .hbm, ⟨13, _⟩ => ⟨S16640x1, .f32⟩
  | .hbm, ⟨14, _⟩ => ⟨S16640x4096, .f32⟩
  | .hbm, ⟨15, _⟩ => ⟨S16640x4096, .f32⟩
  | .hbm, ⟨16, _⟩ => ⟨S16640x4096, .f32⟩
  | .hbm, ⟨17, _⟩ => ⟨S4096x16384, .f32⟩
  | .hbm, ⟨18, _⟩ => ⟨S16640x16384, .f32⟩
  | .hbm, ⟨19, _⟩ => ⟨S_, .f32⟩
  | .hbm, ⟨20, _⟩ => ⟨S16640x16384, .f32⟩
  | .hbm, ⟨21, _⟩ => ⟨S16640x16384, .f32⟩
  | .hbm, ⟨22, _⟩ => ⟨S16640x16384, .f32⟩
  | .hbm, ⟨23, _⟩ => ⟨S16640x16384, .bf16⟩
  | .hbm, ⟨24, _⟩ => ⟨S1x4096x4096, .f32⟩
  | .hbm, ⟨25, _⟩ => ⟨S4096x4096, .f32⟩
  | .hbm, ⟨26, _⟩ => ⟨S4096x4096, .bf16⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel3.lean ====
abbrev S16640x16384 : Shape := ⟨2, ![16640, 16384]⟩
abbrev S16384x4096 : Shape := ⟨2, ![16384, 4096]⟩
abbrev S16640x4096 : Shape := ⟨2, ![16640, 4096]⟩
abbrev S4096 : Shape := ⟨1, ![4096]⟩
abbrev S1x16384x4096 : Shape := ⟨3, ![1, 16384, 4096]⟩
abbrev S1x4096 : Shape := ⟨2, ![1, 4096]⟩
abbrev S16640x128 : Shape := ⟨2, ![16640, 128]⟩
abbrev S1280x2048 : Shape := ⟨2, ![1280, 2048]⟩
abbrev S1x2048x1024 : Shape := ⟨3, ![1, 2048, 1024]⟩
abbrev S1280x1024 : Shape := ⟨2, ![1280, 1024]⟩
abbrev S1x1024 : Shape := ⟨2, ![1, 1024]⟩
abbrev S1280x128 : Shape := ⟨2, ![1280, 128]⟩
abbrev S2048x1024 : Shape := ⟨2, ![2048, 1024]⟩

abbrev nBuf : Space → Nat
  | .hbm => 9
  | .vmem => 15
  | .smem => 0
  | _ => 0

abbrev bufTy : (tb : Table) → Fin (tcTables nBuf tb) → BufTy
  | .hbm, ⟨0, _⟩ => ⟨S16640x16384, .bf16⟩
  | .hbm, ⟨1, _⟩ => ⟨S16384x4096, .bf16⟩
  | .hbm, ⟨2, _⟩ => ⟨S16640x4096, .f32⟩
  | .hbm, ⟨3, _⟩ => ⟨S4096, .f32⟩
  | .hbm, ⟨4, _⟩ => ⟨S1x16384x4096, .bf16⟩
  | .hbm, ⟨5, _⟩ => ⟨S1x4096, .f32⟩
  | .hbm, ⟨6, _⟩ => ⟨S16640x4096, .f32⟩
  | .hbm, ⟨7, _⟩ => ⟨S16640x4096, .bf16⟩
  | .hbm, ⟨8, _⟩ => ⟨S16640x128, .f32⟩
  | .local _ .vmem, ⟨0, _⟩ => ⟨S1280x2048, .bf16⟩
  | .local _ .vmem, ⟨1, _⟩ => ⟨S1280x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1280x1024, .f32⟩
  | .local _ .vmem, ⟨5, _⟩ => ⟨S1280x1024, .f32⟩
  | .local _ .vmem, ⟨6, _⟩ => ⟨S1x1024, .f32⟩
  | .local _ .vmem, ⟨7, _⟩ => ⟨S1x1024, .f32⟩
  | .local _ .vmem, ⟨8, _⟩ => ⟨S1280x1024, .f32⟩
  | .local _ .vmem, ⟨9, _⟩ => ⟨S1280x1024, .f32⟩
  | .local _ .vmem, ⟨10, _⟩ => ⟨S1280x1024, .bf16⟩
  | .local _ .vmem, ⟨11, _⟩ => ⟨S1280x1024, .bf16⟩
  | .local _ .vmem, ⟨12, _⟩ => ⟨S1280x128, .f32⟩
  | .local _ .vmem, ⟨13, _⟩ => ⟨S1280x128, .f32⟩
  | .local _ .vmem, ⟨14, _⟩ => ⟨S1280x1024, .f32⟩
  | _, _ => ⟨S16640x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![13, 4, 8], ![false, false, false]⟩

def k0_cond3 (i : grid0.Coords) : BitVec 1 :=
  let arg2 : BitVec 32 := BitVec.ofNat 32 (i 2).val
  let c7_i32_4 : BitVec 32 := 7#32
  let v9 : BitVec 1 := Scalar.cmpi .eq arg2 c7_i32_4
  let v10 : BitVec 32 := Scalar.extui v9
  let c0_i32_5 : BitVec 32 := 0#32
  let v11 : BitVec 1 := Scalar.cmpi .ne v10 c0_i32_5
  v11

def k0_cond4 (i : grid0.Coords) : BitVec 1 :=
  let arg1 : BitVec 32 := BitVec.ofNat 32 (i 1).val
  let c0_i32 : BitVec 32 := 0#32
  let v0 : BitVec 1 := Scalar.cmpi .eq arg1 c0_i32
  let v41 : BitVec 32 := Scalar.extui v0
  let c0_i32_18 : BitVec 32 := 0#32
  let v42 : BitVec 1 := Scalar.cmpi .ne v41 c0_i32_18
  v42

def k0_cond5 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v43 : BitVec 1 := Scalar.xori v0 v_true
  let v44 : BitVec 32 := Scalar.extui v43
  let c0_i32_19 : BitVec 32 := 0#32
  let v45 : BitVec 1 := Scalar.cmpi .ne v44 c0_i32_19
  v45

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1280x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1280x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1280x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== Reference3Ideal.lean ====
abbrev S16640x16384 : Shape := ⟨2, ![16640, 16384]⟩
abbrev S16384x4096 : Shape := ⟨2, ![16384, 4096]⟩
abbrev S16640x4096 : Shape := ⟨2, ![16640, 4096]⟩
abbrev S4096 : Shape := ⟨1, ![4096]⟩
abbrev S1x4096 : Shape := ⟨2, ![1, 4096]⟩
abbrev S16640x32x128 : Shape := ⟨3, ![16640, 32, 128]⟩
abbrev S_ : Shape := ⟨0, ![]⟩
abbrev S16640x128 : Shape := ⟨2, ![16640, 128]⟩

abbrev nBuf : Space → Nat
  | .hbm => 16
  | .vmem => 0
  | .smem => 0
  | _ => 0

abbrev bufTy : (tb : Table) → Fin (tcTables nBuf tb) → BufTy
  | .hbm, ⟨0, _⟩ => ⟨S16640x16384, .bf16⟩
  | .hbm, ⟨1, _⟩ => ⟨S16384x4096, .bf16⟩
  | .hbm, ⟨2, _⟩ => ⟨S16640x4096, .f32⟩
  | .hbm, ⟨3, _⟩ => ⟨S4096, .f32⟩
  | .hbm, ⟨4, _⟩ => ⟨S16640x16384, .f32⟩
  | .hbm, ⟨5, _⟩ => ⟨S16384x4096, .f32⟩
  | .hbm, ⟨6, _⟩ => ⟨S16640x4096, .f32⟩
  | .hbm, ⟨7, _⟩ => ⟨S16640x4096, .f32⟩
  | .hbm, ⟨8, _⟩ => ⟨S1x4096, .f32⟩
  | .hbm, ⟨9, _⟩ => ⟨S16640x4096, .f32⟩
  | .hbm, ⟨10, _⟩ => ⟨S16640x4096, .f32⟩
  | .hbm, ⟨11, _⟩ => ⟨S16640x4096, .bf16⟩
  | .hbm, ⟨12, _⟩ => ⟨S16640x4096, .f32⟩
  | .hbm, ⟨13, _⟩ => ⟨S16640x32x128, .f32⟩
  | .hbm, ⟨14, _⟩ => ⟨S_, .f32⟩
  | .hbm, ⟨15, _⟩ => ⟨S16640x128, .f32⟩
  | _, _ => ⟨S16640x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel4.lean ====
abbrev S16640x4096 : Shape := ⟨2, ![16640, 4096]⟩
abbrev S4096 : Shape := ⟨1, ![4096]⟩
abbrev S1x4096 : Shape := ⟨2, ![1, 4096]⟩
abbrev S2x8192x4096 : Shape := ⟨3, ![2, 8192, 4096]⟩
abbrev S256x4096 : Shape := ⟨2, ![256, 4096]⟩
abbrev S1x256x4096 : Shape := ⟨3, ![1, 256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16640x4096, .f32⟩
  | .hbm, ⟨1, _⟩ => ⟨S4096, .f32⟩
  | .hbm, ⟨2, _⟩ => ⟨S1x4096, .f32⟩
  | .hbm, ⟨3, _⟩ => ⟨S2x8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x256x4096, .f32⟩
  | .local _ .vmem, ⟨4, _⟩ => ⟨S1x256x4096, .f32⟩
  | _, _ => ⟨S16640x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 32], ![false, false]⟩

def k0_mult1 (i : grid0.Coords) : BitVec 32 :=
  let arg0 : BitVec 32 := BitVec.ofNat 32 (i 0).val
  let c8320_i32 : BitVec 32 := 8320#32
  let v0 : BitVec 32 := Scalar.muli arg0 c8320_i32
  let c16_i32 : BitVec 32 := 16#32
  let v1 : BitVec 32 := Scalar.addi v0 c16_i32
  let arg1 : BitVec 32 := BitVec.ofNat 32 (i 1).val
  let c256_i32 : BitVec 32 := 256#32
  let v2 : BitVec 32 := Scalar.muli arg1 c256_i32
  let v3 : BitVec 32 := Scalar.addi v1 v2
  v3
def cc0_transform_0 (i : grid0.Coords) : Fin 2 → Nat :=
  let arg0 : BitVec 32 := BitVec.ofNat 32 (i 0).val
  let arg1 : BitVec 32 := BitVec.ofNat 32 (i 1).val
  let c8320_i32 : BitVec 32 := 8320#32
  let v0 : BitVec 32 := Scalar.muli arg0 c8320_i32
  let c16_i32 : BitVec 32 := 16#32
  let v1 : BitVec 32 := Scalar.addi v0 c16_i32
  let c256_i32 : BitVec 32 := 256#32
  let v2 : BitVec 32 := Scalar.muli arg1 c256_i32
  let v3 : BitVec 32 := Scalar.addi v1 v2
  let v4 : BitVec 32 := v3
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S16640x4096 : Shape := ⟨2, ![16640, 4096]⟩
abbrev S4096 : Shape := ⟨1, ![4096]⟩
abbrev S2x8320x4096 : Shape := ⟨3, ![2, 8320, 4096]⟩
abbrev S2x8192x4096 : Shape := ⟨3, ![2, 8192, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16640x4096, .f32⟩
  | .hbm, ⟨1, _⟩ => ⟨S4096, .f32⟩
  | .hbm, ⟨2, _⟩ => ⟨S2x8320x4096, .f32⟩
  | .hbm, ⟨3, _⟩ => ⟨S2x8192x4096, .f32⟩
  | .hbm, ⟨4, _⟩ => ⟨S2x8192x4096, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x4096, .f32⟩
  | .hbm, ⟨16, _⟩ => ⟨S2x8192x4096, .f32⟩
  | .hbm, ⟨17, _⟩ => ⟨S1x1x4096, .f32⟩
  | .hbm, ⟨18, _⟩ => ⟨S2x8192x4096, .f32⟩
  | .hbm, ⟨19, _⟩ => ⟨S2x8192x4096, .f32⟩
  | _, _ => ⟨S16640x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel5.lean ====
abbrev S16640x4096 : Shape := ⟨2, ![16640, 4096]⟩
abbrev S16640x128 : Shape := ⟨2, ![16640, 128]⟩
abbrev S14336x4096 : Shape := ⟨2, ![14336, 4096]⟩
abbrev S4x4096x14360 : Shape := ⟨3, ![4, 4096, 14360]⟩
abbrev S4x14360x4096 : Shape := ⟨3, ![4, 14360, 4096]⟩
abbrev S57440x4096 : Shape := ⟨2, ![57440, 4096]⟩
abbrev S16640x14336 : Shape := ⟨2, ![16640, 14336]⟩
abbrev S1280x4096 : Shape := ⟨2, ![1280, 4096]⟩
abbrev S1024x4096 : Shape := ⟨2, ![1024, 4096]⟩
abbrev S1280x128 : Shape := ⟨2, ![1280, 128]⟩
abbrev S128x4096 : Shape := ⟨2, ![128, 4096]⟩
abbrev S1280x1024 : Shape := ⟨2, ![1280, 1024]⟩
abbrev S1280x1 : Shape := ⟨2, ![1280, 1]⟩
abbrev S1280 : Shape := ⟨1, ![1280]⟩

abbrev nBuf : Space → Nat
  | .hbm => 8
  | .vmem => 13
  | .smem => 0
  | _ => 0

abbrev bufTy : (tb : Table) → Fin (tcTables nBuf tb) → BufTy
  | .hbm, ⟨0, _⟩ => ⟨S16640x4096, .bf16⟩
  | .hbm, ⟨1, _⟩ => ⟨S16640x128, .f32⟩
  | .hbm, ⟨2, _⟩ => ⟨S14336x4096, .bf16⟩
  | .hbm, ⟨3, _⟩ => ⟨S4x4096x14360, .f32⟩
  | .hbm, ⟨4, _⟩ => ⟨S4x14360x4096, .f32⟩
  | .hbm, ⟨5, _⟩ => ⟨S57440x4096, .f32⟩
  | .hbm, ⟨6, _⟩ => ⟨S16640x14336, .bf16⟩
  | .hbm, ⟨7, _⟩ => ⟨S14336x4096, .bf16⟩
  | .local _ .vmem, ⟨0, _⟩ => ⟨S1280x4096, .bf16⟩
  | .local _ .vmem, ⟨1, _⟩ => ⟨S1280x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1280x128, .f32⟩
  | .local _ .vmem, ⟨5, _⟩ => ⟨S1280x128, .f32⟩
  | .local _ .vmem, ⟨6, _⟩ => ⟨S128x4096, .f32⟩
  | .local _ .vmem, ⟨7, _⟩ => ⟨S128x4096, .f32⟩
  | .local _ .vmem, ⟨8, _⟩ => ⟨S1280x1024, .bf16⟩
  | .local _ .vmem, ⟨9, _⟩ => ⟨S1280x1024, .bf16⟩
  | .local _ .vmem, ⟨10, _⟩ => ⟨S128x4096, .bf16⟩
  | .local _ .vmem, ⟨11, _⟩ => ⟨S128x4096, .bf16⟩
  | .local _ .vmem, ⟨12, _⟩ => ⟨S1280x1, .f32⟩
  | _, _ => ⟨S16640x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![13, 14], ![false, false]⟩

def k0_mult1 (i : grid0.Coords) : BitVec 32 :=
  let c14360_i32 : BitVec 32 := 14360#32
  let arg0 : BitVec 32 := BitVec.ofNat 32 (i 0).val
  let c14_i32 : BitVec 32 := 14#32
  let v0 : BitVec 32 := Scalar.muli arg0 c14_i32
  let arg1 : BitVec 32 := BitVec.ofNat 32 (i 1).val
  let v1 : BitVec 32 := Scalar.addi v0 arg1
  let c111_i32 : BitVec 32 := 111#32
  let v2 : BitVec 32 := Scalar.minsi v1 c111_i32
  let c128_i32 : BitVec 32 := 128#32
  let v7 : BitVec 32 := Scalar.muli v2 c128_i32
  let v8 : BitVec 32 := Scalar.addi c14360_i32 v7
  let c48_i32 : BitVec 32 := 48#32
  let v5 : BitVec 1 := Scalar.cmpi .sge v2 c48_i32
  let c24_i32_0 : BitVec 32 := 24#32
  let c24_i32 : BitVec 32 := 24#32
  let v3 : BitVec 1 := Scalar.cmpi .sge v2 c24_i32
  let c8_i32 : BitVec 32 := 8#32
  let c0_i32 : BitVec 32 := 0#32
  let v4 : BitVec 32 := Scalar.select v3 c8_i32 c0_i32
  let v6 : BitVec 32 := Scalar.select v5 c24_i32_0 v4
  let v9 : BitVec 32 := Scalar.addi v8 v6
  v9
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.muli arg0 c14_i32
  let v1 : BitVec 32 := Scalar.addi v0 arg1
  let c111_i32 : BitVec 32 := 111#32
  let v2 : BitVec 32 := Scalar.minsi v1 c111_i32
  let c24_i32 : BitVec 32 := 24#32
  let v3 : BitVec 1 := Scalar.cmpi .sge v2 c24_i32
  let c8_i32 : BitVec 32 := 8#32
  let c0_i32 : BitVec 32 := 0#32
  let v4 : BitVec 32 := Scalar.select v3 c8_i32 c0_i32
  let c48_i32 : BitVec 32 := 48#32
  let v5 : BitVec 1 := Scalar.cmpi .sge v2 c48_i32
  let c24_i32_0 : BitVec 32 := 24#32
  let v6 : BitVec 32 := Scalar.select v5 c24_i32_0 v4
  let c128_i32 : BitVec 32 := 128#32
  let v7 : BitVec 32 := Scalar.muli v2 c128_i32
  let c14360_i32 : BitVec 32 := 14360#32
  let v8 : BitVec 32 := Scalar.addi c14360_i32 v7
  let v9 : BitVec 32 := Scalar.addi v8 v6
  let v10 : BitVec 32 := v9
  let c0_i32_1 : BitVec 32 := 0#32
  let c0_i32_2 : BitVec 32 := 0#32
  ![v10.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.muli arg0 c14_i32
  let v1 : BitVec 32 := Scalar.addi v0 arg1
  let c111_i32 : BitVec 32 := 111#32
  let v2 : BitVec 32 := Scalar.minsi v1 c111_i32
  let c0_i32 : BitVec 32 := 0#32
  let c0_i32_0 : BitVec 32 := 0#32
  ![v2.toNat, c0_i32.toNat]

abbrev stage0_0 : Fin 2 → Memref sig .tc .vmem S1280x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1280x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S16640x4096 : Shape := ⟨2, ![16640, 4096]⟩
abbrev S16640x128 : Shape := ⟨2, ![16640, 128]⟩
abbrev S14336x4096 : Shape := ⟨2, ![14336, 4096]⟩
abbrev S4x4096x14360 : Shape := ⟨3, ![4, 4096, 14360]⟩
abbrev S_ : Shape := ⟨0, ![]⟩
abbrev S16640 : Shape := ⟨1, ![16640]⟩
abbrev S16640x1 : Shape := ⟨2, ![16640, 1]⟩
abbrev S4096x14336 : Shape := ⟨2, ![4096, 14336]⟩
abbrev S16640x14336 : Shape := ⟨2, ![16640, 14336]⟩
abbrev S1x4096x14360 : Shape := ⟨3, ![1, 4096, 14360]⟩
abbrev S4096x14360 : Shape := ⟨2, ![4096, 14360]⟩
abbrev S14360x4096 : Shape := ⟨2, ![14360, 4096]⟩
abbrev S3072x4096 : Shape := ⟨2, ![3072, 4096]⟩
abbrev S8192x4096 : Shape := ⟨2, ![8192, 4096]⟩

abbrev nBuf : Space → Nat
  | .hbm => 29
  | .vmem => 0
  | .smem => 0
  | _ => 0

abbrev bufTy : (tb : Table) → Fin (tcTables nBuf tb) → BufTy
  | .hbm, ⟨0, _⟩ => ⟨S16640x4096, .bf16⟩
  | .hbm, ⟨1, _⟩ => ⟨S16640x128, .f32⟩
  | .hbm, ⟨2, _⟩ => ⟨S14336x4096, .bf16⟩
  | .hbm, ⟨3, _⟩ => ⟨S4x4096x14360, .f32⟩
  | .hbm, ⟨4, _⟩ => ⟨S_, .f32⟩
  | .hbm, ⟨5, _⟩ => ⟨S16640, .f32⟩
  | .hbm, ⟨6, _⟩ => ⟨S16640x1, .f32⟩
  | .hbm, ⟨7, _⟩ => ⟨S_, .f32⟩
  | .hbm, ⟨8, _⟩ => ⟨S16640x1, .f32⟩
  | .hbm, ⟨9, _⟩ => ⟨S16640x1, .f32⟩
  | .hbm, ⟨10, _⟩ => ⟨S_, .f32⟩
  | .hbm, ⟨11, _⟩ => ⟨S16640x1, .f32⟩
  | .hbm, ⟨12, _⟩ => ⟨S16640x1, .f32⟩
  | .hbm, ⟨13, _⟩ => ⟨S16640x1, .f32⟩
  | .hbm, ⟨14, _⟩ => ⟨S16640x4096, .f32⟩
  | .hbm, ⟨15, _⟩ => ⟨S16640x4096, .f32⟩
  | .hbm, ⟨16, _⟩ => ⟨S16640x4096, .f32⟩
  | .hbm, ⟨17, _⟩ => ⟨S14336x4096, .f32⟩
  | .hbm, ⟨18, _⟩ => ⟨S4096x14336, .f32⟩
  | .hbm, ⟨19, _⟩ => ⟨S16640x14336, .f32⟩
  | .hbm, ⟨20, _⟩ => ⟨S1x4096x14360, .f32⟩
  | .hbm, ⟨21, _⟩ => ⟨S4096x14360, .f32⟩
  | .hbm, ⟨22, _⟩ => ⟨S14360x4096, .f32⟩
  | .hbm, ⟨23, _⟩ => ⟨S3072x4096, .f32⟩
  | .hbm, ⟨24, _⟩ => ⟨S3072x4096, .f32⟩
  | .hbm, ⟨25, _⟩ => ⟨S8192x4096, .f32⟩
  | .hbm, ⟨26, _⟩ => ⟨S14336x4096, .f32⟩
  | .hbm, ⟨27, _⟩ => ⟨S16640x14336, .bf16⟩
  | .hbm, ⟨28, _⟩ => ⟨S14336x4096, .bf16⟩
  | _, _ => ⟨S16640x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel6.lean ====
abbrev S2x8320x1024 : Shape := ⟨3, ![2, 8320, 1024]⟩
abbrev S16640x14336 : Shape := ⟨2, ![16640, 14336]⟩
abbrev S4x1024x4096 : Shape := ⟨3, ![4, 1024, 4096]⟩
abbrev S16640x1024 : Shape := ⟨2, ![16640, 1024]⟩
abbrev S16640x4096 : Shape := ⟨2, ![16640, 4096]⟩
abbrev S1280x1024 : Shape := ⟨2, ![1280, 1024]⟩
abbrev S1x1024x1024 : Shape := ⟨3, ![1, 1024, 1024]⟩
abbrev S1024x1024 : Shape := ⟨2, ![1024, 1024]⟩

abbrev nBuf : Space → Nat
  | .hbm => 8
  | .vmem => 14
  | .smem => 0
  | _ => 0

abbrev bufTy : (tb : Table) → Fin (tcTables nBuf tb) → BufTy
  | .hbm, ⟨0, _⟩ => ⟨S2x8320x1024, .bf16⟩
  | .hbm, ⟨1, _⟩ => ⟨S2x8320x1024, .bf16⟩
  | .hbm, ⟨2, _⟩ => ⟨S16640x14336, .bf16⟩
  | .hbm, ⟨3, _⟩ => ⟨S4x1024x4096, .bf16⟩
  | .hbm, ⟨4, _⟩ => ⟨S4x1024x4096, .bf16⟩
  | .hbm, ⟨5, _⟩ => ⟨S16640x1024, .bf16⟩
  | .hbm, ⟨6, _⟩ => ⟨S16640x1024, .bf16⟩
  | .hbm, ⟨7, _⟩ => ⟨S16640x4096, .bf16⟩
  | .local _ .vmem, ⟨0, _⟩ => ⟨S1280x1024, .bf16⟩
  | .local _ .vmem, ⟨1, _⟩ => ⟨S1280x1024, .bf16⟩
  | .local _ .vmem, ⟨2, _⟩ => ⟨S1280x1024, .bf16⟩
  | .local _ .vmem, ⟨3, _⟩ => ⟨S1280x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1280x1024, .bf16⟩
  | .local _ .vmem, ⟨9, _⟩ => ⟨S1280x1024, .bf16⟩
  | .local _ .vmem, ⟨10, _⟩ => ⟨S1280x1024, .bf16⟩
  | .local _ .vmem, ⟨11, _⟩ => ⟨S1280x1024, .bf16⟩
  | .local _ .vmem, ⟨12, _⟩ => ⟨S1280x1024, .bf16⟩
  | .local _ .vmem, ⟨13, _⟩ => ⟨S1280x1024, .bf16⟩
  | _, _ => ⟨S2x8320x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![13, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1280x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1280x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1280x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S2x8320x1024 : Shape := ⟨3, ![2, 8320, 1024]⟩
abbrev S16640x14336 : Shape := ⟨2, ![16640, 14336]⟩
abbrev S4x1024x4096 : Shape := ⟨3, ![4, 1024, 4096]⟩
abbrev S16640x1024 : Shape := ⟨2, ![16640, 1024]⟩
abbrev S16640x4096 : Shape := ⟨2, ![16640, 4096]⟩
abbrev S_ : Shape := ⟨0, ![]⟩
abbrev S1x1024x4096 : Shape := ⟨3, ![1, 1024, 4096]⟩
abbrev S1024x4096 : Shape := ⟨2, ![1024, 4096]⟩

abbrev nBuf : Space → Nat
  | .hbm => 41
  | .vmem => 0
  | .smem => 0
  | _ => 0

abbrev bufTy : (tb : Table) → Fin (tcTables nBuf tb) → BufTy
  | .hbm, ⟨0, _⟩ => ⟨S2x8320x1024, .bf16⟩
  | .hbm, ⟨1, _⟩ => ⟨S2x8320x1024, .bf16⟩
  | .hbm, ⟨2, _⟩ => ⟨S16640x14336, .bf16⟩
  | .hbm, ⟨3, _⟩ => ⟨S4x1024x4096, .bf16⟩
  | .hbm, ⟨4, _⟩ => ⟨S4x1024x4096, .bf16⟩
  | .hbm, ⟨5, _⟩ => ⟨S16640x1024, .bf16⟩
  | .hbm, ⟨6, _⟩ => ⟨S16640x1024, .f32⟩
  | .hbm, ⟨7, _⟩ => ⟨S16640x1024, .bf16⟩
  | .hbm, ⟨8, _⟩ => ⟨S16640x1024, .f32⟩
  | .hbm, ⟨9, _⟩ => ⟨S16640x4096, .bf16⟩
  | .hbm, ⟨10, _⟩ => ⟨S16640x4096, .f32⟩
  | .hbm, ⟨11, _⟩ => ⟨S16640x4096, .bf16⟩
  | .hbm, ⟨12, _⟩ => ⟨S16640x4096, .f32⟩
  | .hbm, ⟨13, _⟩ => ⟨S16640x4096, .f32⟩
  | .hbm, ⟨14, _⟩ => ⟨S16640x4096, .f32⟩
  | .hbm, ⟨15, _⟩ => ⟨S_, .f32⟩
  | .hbm, ⟨16, _⟩ => ⟨S16640x4096, .f32⟩
  | .hbm, ⟨17, _⟩ => ⟨S16640x4096, .f32⟩
  | .hbm, ⟨18, _⟩ => ⟨S_, .f32⟩
  | .hbm, ⟨19, _⟩ => ⟨S16640x4096, .f32⟩
  | .hbm, ⟨20, _⟩ => ⟨S16640x4096, .f32⟩
  | .hbm, ⟨21, _⟩ => ⟨S1x1024x4096, .bf16⟩
  | .hbm, ⟨22, _⟩ => ⟨S1024x4096, .bf16⟩
  | .hbm, ⟨23, _⟩ => ⟨S1024x4096, .f32⟩
  | .hbm, ⟨24, _⟩ => ⟨S16640x4096, .f32⟩
  | .hbm, ⟨25, _⟩ => ⟨S16640x4096, .f32⟩
  | .hbm, ⟨26, _⟩ => ⟨S16640x4096, .f32⟩
  | .hbm, ⟨27, _⟩ => ⟨S16640x4096, .f32⟩
  | .hbm, ⟨28, _⟩ => ⟨S_, .f32⟩
  | .hbm, ⟨29, _⟩ => ⟨S16640x4096, .f32⟩
  | .hbm, ⟨30, _⟩ => ⟨S16640x4096, .f32⟩
  | .hbm, ⟨31, _⟩ => ⟨S_, .f32⟩
  | .hbm, ⟨32, _⟩ => ⟨S16640x4096, .f32⟩
  | .hbm, ⟨33, _⟩ => ⟨S16640x4096, .f32⟩
  | .hbm, ⟨34, _⟩ => ⟨S1x1024x4096, .bf16⟩
  | .hbm, ⟨35, _⟩ => ⟨S1024x4096, .bf16⟩
  | .hbm, ⟨36, _⟩ => ⟨S1024x4096, .f32⟩
  | .hbm, ⟨37, _⟩ => ⟨S16640x4096, .f32⟩
  | .hbm, ⟨38, _⟩ => ⟨S16640x4096, .f32⟩
  | .hbm, ⟨39, _⟩ => ⟨S16640x4096, .f32⟩
  | .hbm, ⟨40, _⟩ => ⟨S16640x4096, .bf16⟩
  | _, _ => ⟨S2x8320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Proof.Pieces.lean ====
/- What one grid point of the gated linear attention kernel stores, with the four heads and the two batch rows written once.
   The body treats each (batch row, head) pair by its own straight-line text; each text is one of the functions below at that
   pair's lane offset and blocks. -/
module

public import proofs.«01_k».proof.Proof.Gen.KernelIdeal.Value

@[expose] public section

set_option maxRecDepth 16384

noncomputable section

open Idealize.ShloMosaic Idealize.ShloMosaic.TcCoe Idealize.SL.Sem

namespace Cert.KernelIdeal.Chunk

open Cert.KernelIdeal Cert.KernelIdeal.Gen

variable {F : FTy → Type} [FloatOps F]

/-- The chunk's running log decay, one row per token, one lane per channel of the four heads. -/
def cumOf (x : Vec F S1x128x128 .f32) (w : Vec F S128x512 .bf16) (b : Vec F S1x512 .f32) : FVec F S128x512 .f32 :=
  k0_pay9 k0_pay7 (k0_pay8 x w b) (Scalar.ofBits .f32 0x00000000#32)

/-- The level's decay factor `exp(-|cum - cum at the half-block row|)`, at half-block width 1. -/
def fac0 (cum : FVec F S128x512 .f32) : FVec F S128x512 .f32 :=
  k0_pay20 cum (k0_pay16 cum) (iota .tc S16x8x512 32 [1] iota_S16x8x512_d1_w32) (k0_pay17 cum) k0_pay18 (k0_pay19 cum)

/-- One level's score matrix of the head at lane offset `off`: scaled queries against scaled keys. -/
def score (off : ℕ) (hs : S128x512.Slices ![0, off] S128x128) (f q k : FVec F S128x512 .f32) : FVec F S128x128 .f32 :=
  matmul dot_S128x128_S128x128_S128x128_1_1_0_0_n_n none
    (extractStridedSlice S128x128 ![0, off] (truncf .bf16 (mulf q f) bitsLt_bf16_f32) hs)
    (extractStridedSlice S128x128 ![0, off] (truncf .bf16 (mulf k f) bitsLt_bf16_f32) hs)
    (constant S128x128 .f32 0x00000000#32)

/-- A score matrix kept where the pair's level is `n`, zero elsewhere. -/
def atLevel (n : BitVec 32) (p : FVec F S128x128 .f32) : FVec F S128x128 .f32 :=
  select (cmpi .eq k0_pay4 (broadcast S128x128 n)) p (broadcast S128x128 (Scalar.ofBits .f32 0x00000000#32))

/-- The diagonal of the head's score matrix: each token's query against its own key. -/
def diagScore (off : ℕ) (hs : S128x512.Slices ![0, off] S128x128) (q k : FVec F S128x512 .f32) : FVec F S128x128 .f32 :=
  select k0_pay5 (broadcastTo S128x128 (shapeCast S128x1 (shapeCast S128x1
    (multiReduction .add [1] S128 (extractStridedSlice S128x128 ![0, off] (mulf q k) hs) 0x00000000#32 reduces_S128x128_S128 (.inl rfl) rfl)
    shapeCasts_S128_S128x1) shapeCasts_S128x1_S128x1) broadcasts_S128x1_S128x128)
    (broadcast S128x128 (Scalar.ofBits .f32 0x00000000#32))

/-- The head's score matrix: the diagonal and the seven levels. -/
def att (off : ℕ) (hs : S128x512.Slices ![0, off] S128x128) (cum q k : FVec F S128x512 .f32) : FVec F S128x128 .f32 :=
  addf (addf (addf (addf (addf (addf (addf (diagScore off hs q k)
    (atLevel 0#32 (score off hs (fac0 cum) q k)))
    (atLevel 1#32 (score off hs (k0_pay27 cum) q k)))
    (atLevel 2#32 (score off hs (k0_pay35 cum) q k)))
    (atLevel 3#32 (score off hs (k0_pay42 cum) q k)))
    (atLevel 4#32 (score off hs (k0_pay50 cum) q k)))
    (atLevel 5#32 (score off hs (k0_pay57 cum) q k)))
    (atLevel 6#32 (score off hs (k0_pay65 cum) q k))

/-- The head's output rows before the norm: the chunk's own scores times its values, and the carried state's part. -/
def outRaw (off : ℕ) (hs : S128x512.Slices ![0, off] S128x128) (cum q k : FVec F S128x512 .f32)
    (v : Vec F S1x128x256 .bf16) (s : Vec F S1x1x128x256 .f32) : FVec F S128x256 .f32 :=
  addf
    (matmul dot_S128x128_S128x256_S128x256_1_0_0_1_n_n none (truncf .bf16 (att off hs cum q k) bitsLt_bf16_f32)
      (shapeCast S128x256 v shapeCasts_S1x128x256_S128x256) (constant S128x256 .f32 0x00000000#32))
    (matmul dot_S128x128_S128x256_S128x256_1_0_0_1_n_n none
      (extractStridedSlice S128x128 ![0, off] (truncf .bf16 (mulf q (exp cum)) bitsLt_bf16_f32) hs)
      (truncf .bf16 (shapeCast S128x256 s shapeCasts_S1x1x128x256_S128x256) bitsLt_bf16_f32) (constant S128x256 .f32 0x00000000#32))

/-- The head's next state: the old one decayed by the whole chunk, plus the chunk's keys against its values. -/
def nextState (off : ℕ) (hs : S128x512.Slices ![0, off] S128x128) (hl : S1x512.Slices ![0, off] S1x128)
    (cum k : FVec F S128x512 .f32) (v : Vec F S1x128x256 .bf16) (s : Vec F S1x1x128x256 .f32) : FVec F S1x1x128x256 .f32 :=
  shapeCast S1x1x128x256
    (addf
      (mulf (broadcastTo S128x256 (shapeCast S128x1
        (multiReduction .add [1] S128
          (select k0_pay6
            (broadcastTo S128x128 (shapeCast S1x128 (exp (extractStridedSlice S1x128 ![0, off] (k0_pay129 cum) hl)) shapeCasts_S1x128_S1x128) broadcasts_S1x128_S128x128)
            (broadcast S128x128 (Scalar.ofBits .f32 0x00000000#32)))
          0x00000000#32 reduces_S128x128_S128 (.inl rfl) rfl)
        shapeCasts_S128_S128x1) broadcasts_S128x1_S128x256)
        (shapeCast S128x256 s shapeCasts_S1x1x128x256_S128x256))
      (matmul dot_S128x128_S128x256_S128x256_0_0_1_1_n_n none
        (extractStridedSlice S128x128 ![0, off] (k0_pay132 cum k (k0_pay129 cum)) hs)
        (shapeCast S128x256 v shapeCasts_S1x128x256_S128x256) (constant S128x256 .f32 0x00000000#32)))
    shapeCasts_S128x256_S1x1x128x256

/-- The head's stored output rows: normalised by the root mean square, times the norm weight, times the output gate. -/
def gated (o : FVec F S128x256 .f32) (g : Vec F S1x128x256 .bf16) (w : Vec F S1x256 .f32) : FVec F S1x128x256 .bf16 :=
  k0_pay143 o (multiReduction .add [1] S128 (mulf o o) 0x00000000#32 reduces_S128x256_S128 (.inl rfl) rfl) g w

/-! ## The blocks a (batch row, head) pair reads -/

theorem hsl (h : Fin 4) : S128x512.Slices ![0, 128 * h.val] S128x128 :=
  match h with
  | 0 => slices_S128x512_o0_0_S128x128 | 1 => slices_S128x512_o0_128_S128x128
  | 2 => slices_S128x512_o0_256_S128x128 | 3 => slices_S128x512_o0_384_S128x128

theorem hsl1 (h : Fin 4) : S1x512.Slices ![0, 128 * h.val] S1x128 :=
  match h with
  | 0 => slices_S1x512_o0_0_S1x128 | 1 => slices_S1x512_o0_128_S1x128
  | 2 => slices_S1x512_o0_256_S1x128 | 3 => slices_S1x512_o0_384_S1x128

theorem inbQ (b : Fin 2) (o : Fin 2) : ∀ a, (![b.val, 0, 512 * o.val] : Fin 3 → ℕ) a + S1x128x512.size a ≤ S2x128x1024.size a := by
  revert b o; decide

theorem inbS (b : Fin 2) : ∀ a, (![b.val, 0, 0] : Fin 3 → ℕ) a + S1x128x128.size a ≤ S2x128x128.size a := by
  revert b; decide

theorem inbV (b : Fin 2) (h : Fin 4) : ∀ a, (![b.val, 0, 256 * h.val] : Fin 3 → ℕ) a + S1x128x256.size a ≤ S2x128x1024.size a := by
  revert b h; decide

theorem inbG (h : Fin 4) : ∀ a, (![0, 256 * h.val] : Fin 2 → ℕ) a + S1x256.size a ≤ S1x1024.size a := by
  revert h; decide

theorem inbT (b : Fin 2) (h : Fin 4) : ∀ a, (![b.val, h.val, 0, 0] : Fin 4 → ℕ) a + S1x1x128x256.size a ≤ S2x4x128x256.size a := by
  revert b h; decide

/-- Where the (batch row, head) pair's value, gate and output columns sit in a `[2, 128, 1024]` block. -/
abbrev rV (b : Fin 2) (h : Fin 4) : Rect S2x128x1024 := Rect.unit ![b.val, 0, 256 * h.val] S1x128x256.size (inbV b h)

/-- Where the pair's state sits in the carried state. -/
abbrev rT (b : Fin 2) (h : Fin 4) : Rect S2x4x128x256 := Rect.unit ![b.val, h.val, 0, 0] S1x1x128x256.size (inbT b h)

/-- The batch row's running log decay over the chunk. -/
def cumB (b : Fin 2) (x3 : Vec F S2x128x128 .f32) (x4 : Vec F S128x512 .bf16) (x5 : Vec F S1x512 .f32) : FVec F S128x512 .f32 :=
  cumOf (View.ld x3 (Rect.unit ![b.val, 0, 0] S1x128x128.size (inbS b)))
    (View.ld x4 (Rect.unit ![0, 0] S128x512.size inb_S128x512_S128x512_0_0))
    (View.ld x5 (Rect.unit ![0, 0] S1x512.size inb_S1x512_S1x512_0_0))

/-- The batch row's scaled queries and its keys. -/
def qB (b : Fin 2) (x0 : Vec F S2x128x1024 .bf16) : FVec F S128x512 .f32 :=
  k0_pay10 (View.ld x0 (Rect.unit ![b.val, 0, 512 * (0 : Fin 2).val] S1x128x512.size (inbQ b 0)))

def kB (b : Fin 2) (x0 : Vec F S2x128x1024 .bf16) : FVec F S128x512 .f32 :=
  k0_pay11 (View.ld x0 (Rect.unit ![b.val, 0, 512 * (1 : Fin 2).val] S1x128x512.size (inbQ b 1)))

/-- What the pair stores into the output block, from the point's blocks and the state it finds. -/
def outP (b : Fin 2) (h : Fin 4) (x0 x1 x2 : Vec F S2x128x1024 .bf16) (x3 : Vec F S2x128x128 .f32) (x4 : Vec F S128x512 .bf16)
    (x5 : Vec F S1x512 .f32) (x6 : Vec F S1x1024 .f32) (s : Vec F S1x1x128x256 .f32) : FVec F S1x128x256 .bf16 :=
  gated (outRaw (128 * h.val) (hsl h) (cumB b x3 x4 x5) (qB b x0) (kB b x0) (View.ld x1 (rV b h)) s)
    (View.ld x2 (rV b h)) (View.ld x6 (Rect.unit ![0, 256 * h.val] S1x256.size (inbG h)))

/-- What the pair stores into the carried state. -/
def stP (b : Fin 2) (h : Fin 4) (x0 x1 : Vec F S2x128x1024 .bf16) (x3 : Vec F S2x128x128 .f32) (x4 : Vec F S128x512 .bf16)
    (x5 : Vec F S1x512 .f32) (s : Vec F S1x1x128x256 .f32) : FVec F S1x1x128x256 .f32 :=
  nextState (128 * h.val) (hsl h) (hsl1 h) (cumB b x3 x4 x5) (kB b x0) (View.ld x1 (rV b h)) s

end Cert.KernelIdeal.Chunk

end
-- ==== Proof.Point.lean ====
/- The blocks one grid point leaves: the output block and the carried state, as functions of the blocks it read. -/
module

public import proofs.«01_k».proof.Proof.Pieces
public import Idealize.ShloMosaic.Lib.Pipeline.ReadBack
public import Idealize.ShloMosaic.Lib.Pointwise
public import Idealize.ShloMosaic.Lib.Pipeline.ValueKit.Geometry

@[expose] public section

set_option maxRecDepth 16384

noncomputable section

open Idealize.ShloMosaic Idealize.ShloMosaic.TcCoe Idealize.SL.Sem

namespace Cert.KernelIdeal.Chunk

open Cert.KernelIdeal Cert.KernelIdeal.Gen

variable {F : FTy → Type} [FloatOps F]
variable (c : Dev nD) (i : grid0.Coords) (arg1 : Memref sig .tc .vmem S2x128x1024 .bf16) (harg1 : arg1.IsWhole) (arg2 : Memref sig .tc .vmem S2x128x1024 .bf16) (harg2 : arg2.IsWhole)
  (arg3 : Memref sig .tc .vmem S2x128x1024 .bf16) (harg3 : arg3.IsWhole) (arg4 : Memref sig .tc .vmem S2x128x128 .f32) (harg4 : arg4.IsWhole)
  (arg5 : Memref sig .tc .vmem S128x512 .bf16) (harg5 : arg5.IsWhole) (arg6 : Memref sig .tc .vmem S1x512 .f32) (harg6 : arg6.IsWhole)
  (arg7 : Memref sig .tc .vmem S1x1024 .f32) (harg7 : arg7.IsWhole) (arg8 : Memref sig .tc .vmem S1x64x16384 .f32) (harg8 : arg8.IsWhole)
  (arg9 : Memref sig .tc .vmem S2x128x1024 .bf16) (harg9 : arg9.IsWhole) (arg10 : Memref sig .tc .vmem S64x16384 .bf16) (harg10 : arg10.IsWhole)
  (arg11 : Memref sig .tc .vmem S2x4x128x256 .f32) (harg11 : arg11.IsWhole)
  (x0 x1 x2 : Vec F S2x128x1024 .bf16) (x3 : Vec F S2x128x128 .f32) (x4 : Vec F S128x512 .bf16) (x5 : Vec F S1x512 .f32)
  (x6 : Vec F S1x1024 .f32) (x7 : Vec F S1x64x16384 .f32) (xs0 : Vec F S2x4x128x256 .f32)

/-- Pieces that are blocks of `G` and cover `y` leave `G y` there, whatever was stored before them. -/
theorem canon_append_of_pieces {S : Shape} {e : EltTy} (G : S.Idx → Elt F e) (L' : List (View.Piece (Elt F) S e)) :
    ∀ (L : List (View.Piece (Elt F) S e)) (_ : ∀ p ∈ L, ∀ x : p.1.shape.Idx, p.2 x = G (p.1.emb x)) (y : S.Idx)
      (_ : ∃ p ∈ L, y ∈ p.1.set), View.canon (L ++ L') y = G y
  | [], _, _, hy => by obtain ⟨p, hp, _⟩ := hy; simp at hp
  | p :: L, hL, y, hy => by
    by_cases hm : y ∈ p.1.set
    · obtain ⟨x, rfl⟩ : ∃ x, p.1.emb x = y := p.1.exists_idx_of_mem hm
      rw [List.cons_append, View.canon_cons_emb]
      exact hL p (by simp) x
    · rw [List.cons_append, View.canon_cons_of_not_mem _ _ hm]
      refine canon_append_of_pieces G L' L (fun q hq => hL q (by simp [hq])) y ?_
      obtain ⟨q, hq, hy⟩ := hy
      rcases List.mem_cons.mp hq with rfl | hq
      · exact absurd hy hm
      · exact ⟨q, hq, hy⟩

/-- The (batch row, head) pairs, last stored first. -/
def pairs : List (Fin 2 × Fin 4) := [(1, 3), (1, 2), (1, 1), (1, 0), (0, 3), (0, 2), (0, 1), (0, 0)]

theorem mem_pairs (b : Fin 2) (h : Fin 4) : (b, h) ∈ pairs := by revert b h; decide

section Lists

variable (x0 x1 x2 : Vec F S2x128x1024 .bf16) (x3 : Vec F S2x128x128 .f32) (x4 : Vec F S128x512 .bf16) (x5 : Vec F S1x512 .f32)
    (x6 : Vec F S1x1024 .f32) (s : Vec F S2x4x128x256 .f32)

/-- The eight stores of the output block, from the carried state `s` the point starts from. -/
def outPieces : List (View.Piece (Elt F) S2x128x1024 .bf16) :=
  pairs.map fun p => ⟨rV p.1 p.2, outP p.1 p.2 x0 x1 x2 x3 x4 x5 x6 (View.ld s (rT p.1 p.2))⟩

/-- The eight stores of the carried state. -/
def stPieces : List (View.Piece (Elt F) S2x4x128x256 .f32) :=
  pairs.map fun p => ⟨rT p.1 p.2, stP p.1 p.2 x0 x1 x3 x4 x5 (View.ld s (rT p.1 p.2))⟩

/-- The output block after the point, from the carried state `s` it starts from. -/
def outAll : Vec F S2x128x1024 .bf16 := fun y =>
  outP (y 0) ⟨(y 2).val / 256, by have := (y 2).isLt; change _ < 1024 at this; omega⟩ x0 x1 x2 x3 x4 x5 x6 (View.ld s (rT (y 0) ⟨(y 2).val / 256, by have := (y 2).isLt; change _ < 1024 at this; omega⟩))
    (ix3 0 (y 1) ⟨(y 2).val % 256, Nat.mod_lt _ (by decide)⟩)

/-- The carried state after the point. -/
def stAll : Vec F S2x4x128x256 .f32 := fun y =>
  stP (y 0) (y 1) x0 x1 x3 x4 x5 (View.ld s (rT (y 0) (y 1))) (ix4 0 0 (y 2) (y 3))

theorem outAll_at (b : Fin 2) (h : Fin 4) (r : Fin 128) (k : Fin 256) (col : Fin 1024) (e : col.val = 256 * h.val + k.val) :
    outAll x0 x1 x2 x3 x4 x5 x6 s (ix3 b r col) = outP b h x0 x1 x2 x3 x4 x5 x6 (View.ld s (rT b h)) (ix3 0 r k) := by
  have key : ∀ (h' : Fin 4) (k' : Fin 256), h' = h → k' = k →
      outP b h' x0 x1 x2 x3 x4 x5 x6 (View.ld s (rT b h')) (ix3 0 r k') = outP b h x0 x1 x2 x3 x4 x5 x6 (View.ld s (rT b h)) (ix3 0 r k) := by
    rintro _ _ rfl rfl; rfl
  exact key _ _ (Fin.ext (by have := k.isLt; show col.val / 256 = h.val; omega)) (Fin.ext (by have := k.isLt; show col.val % 256 = k.val; omega))

theorem emb_rV (b : Fin 2) (h : Fin 4) (z : Fin 1) (r : Fin 128) (k : Fin 256) :
    (rV b h).emb (ix3 z r k) = ix3 b r ⟨256 * h.val + k.val, by have := h.isLt; have := k.isLt; omega⟩ := by
  funext a; apply Fin.ext; rw [ValueKit.rect_emb_unit_val]
  fin_cases a
  · show b.val + z.val = b.val; have := z.isLt; omega
  · show 0 + r.val = r.val; omega
  · rfl

theorem emb_rT (b : Fin 2) (h : Fin 4) (z z' : Fin 1) (d : Fin 128) (k : Fin 256) :
    (rT b h).emb (ix4 z z' d k) = ix4 b h d k := by
  funext a; apply Fin.ext; rw [ValueKit.rect_emb_unit_val]
  fin_cases a
  · show b.val + z.val = b.val; have := z.isLt; omega
  · show h.val + z'.val = h.val; have := z'.isLt; omega
  · show 0 + d.val = d.val; omega
  · show 0 + k.val = k.val; omega

/-- The eight output stores make the whole block, whatever was stored before them. -/
theorem outPieces_canon (L' : List (View.Piece (Elt F) S2x128x1024 .bf16)) :
    View.canon (outPieces x0 x1 x2 x3 x4 x5 x6 s ++ L') = outAll x0 x1 x2 x3 x4 x5 x6 s := by
  funext y
  refine canon_append_of_pieces _ L' _ ?_ y ?_
  · intro p hp x
    obtain ⟨⟨b, h⟩, -, rfl⟩ := List.mem_map.mp hp
    change S1x128x256.Idx at x
    obtain ⟨z, r, k, rfl⟩ : ∃ z r k, x = ix3 z r k := ⟨_, _, _, eq_ix3 x⟩
    obtain rfl : z = 0 := Subsingleton.elim _ _
    exact ((congrArg _ (emb_rV b h 0 r k)).trans (outAll_at x0 x1 x2 x3 x4 x5 x6 s b h r k _ rfl)).symm
  · refine ⟨_, List.mem_map.mpr ⟨(y 0, ⟨(y 2).val / 256, by have := (y 2).isLt; change _ < 1024 at this; omega⟩), mem_pairs _ _, rfl⟩, ?_⟩
    show y ∈ (rV (y 0) ⟨(y 2).val / 256, by have := (y 2).isLt; change _ < 1024 at this; omega⟩).set
    refine Rect.mem_set_unit.mpr fun a => ?_
    have h1 : (y 1).val < 128 := (y 1).isLt
    have h2 : (y 2).val < 1024 := (y 2).isLt
    fin_cases a
    · show (y 0).val ≤ (y 0).val ∧ (y 0).val < (y 0).val + 1; omega
    · show 0 ≤ (y 1).val ∧ (y 1).val < 0 + 128; omega
    · show 256 * ((y 2).val / 256) ≤ (y 2).val ∧ (y 2).val < 256 * ((y 2).val / 256) + 256; omega

/-- The eight state stores make the whole state, whatever was stored before them. -/
theorem stPieces_canon (L' : List (View.Piece (Elt F) S2x4x128x256 .f32)) :
    View.canon (stPieces x0 x1 x3 x4 x5 s ++ L') = stAll x0 x1 x3 x4 x5 s := by
  funext y
  refine canon_append_of_pieces _ L' _ ?_ y ?_
  · intro p hp x
    obtain ⟨⟨b, h⟩, -, rfl⟩ := List.mem_map.mp hp
    change S1x1x128x256.Idx at x
    obtain ⟨z, z', d, k, rfl⟩ : ∃ z z' d k, x = ix4 z z' d k := ⟨_, _, _, _, eq_ix4 x⟩
    obtain rfl : z = 0 := Subsingleton.elim _ _
    obtain rfl : z' = 0 := Subsingleton.elim _ _
    exact (congrArg (stAll x0 x1 x3 x4 x5 s) (emb_rT b h 0 0 d k)).symm
  · refine ⟨_, List.mem_map.mpr ⟨(y 0, y 1), mem_pairs _ _, rfl⟩, ?_⟩
    show y ∈ (rT (y 0) (y 1)).set
    refine Rect.mem_set_unit.mpr fun a => ?_
    have h2 : (y 2).val < 128 := (y 2).isLt
    have h3 : (y 3).val < 256 := (y 3).isLt
    fin_cases a
    · show (y 0).val ≤ (y 0).val ∧ (y 0).val < (y 0).val + 1; omega
    · show (y 1).val ≤ (y 1).val ∧ (y 1).val < (y 1).val + 1; omega
    · show 0 ≤ (y 2).val ∧ (y 2).val < 0 + 128; omega
    · show 0 ≤ (y 3).val ∧ (y 3).val < 0 + 256; omega

end Lists

/-- The eight stores of the output block, at a point after the first. -/
theorem pieces8_B (hc : ¬cond0_0 i) : (kernelRun0_B c i arg1 harg1 arg2 harg2 arg3 harg3 arg4 harg4 arg5 harg5 arg6 harg6 arg7 harg7 arg8 harg8 arg9 harg9 arg10 harg10 arg11 harg11 hc x0 x1 x2 x3 x4 x5 x6 x7 xs0).1 = outPieces x0 x1 x2 x3 x4 x5 x6 xs0 := by
  rw [show (kernelRun0_B c i arg1 harg1 arg2 harg2 arg3 harg3 arg4 harg4 arg5 harg5 arg6 harg6 arg7 harg7 arg8 harg8 arg9 harg9 arg10 harg10 arg11 harg11 hc x0 x1 x2 x3 x4 x5 x6 x7 xs0).1 = outPieces (arg1.view.read (Elt F) (harg1.unread x0)) (arg2.view.read (Elt F) (harg2.unread x1)) (arg3.view.read (Elt F) (harg3.unread x2)) (arg4.view.read (Elt F) (harg4.unread x3)) (arg5.view.read (Elt F) (harg5.unread x4)) (arg6.view.read (Elt F) (harg6.unread x5)) (arg7.view.read (Elt F) (harg7.unread x6)) (arg11.view.read (Elt F) (harg11.unread xs0)) from rfl]
  simp only [harg1.read_unread, harg2.read_unread, harg3.read_unread, harg4.read_unread, harg5.read_unread, harg6.read_unread, harg7.read_unread, harg11.read_unread]

/-- The eight stores of the carried state, at a point after the first. -/
theorem piecesS_B (hc : ¬cond0_0 i) : (kernelRun0_B c i arg1 harg1 arg2 harg2 arg3 harg3 arg4 harg4 arg5 harg5 arg6 harg6 arg7 harg7 arg8 harg8 arg9 harg9 arg10 harg10 arg11 harg11 hc x0 x1 x2 x3 x4 x5 x6 x7 xs0).2.2.1 = stPieces x0 x1 x3 x4 x5 xs0 := by
  rw [show (kernelRun0_B c i arg1 harg1 arg2 harg2 arg3 harg3 arg4 harg4 arg5 harg5 arg6 harg6 arg7 harg7 arg8 harg8 arg9 harg9 arg10 harg10 arg11 harg11 hc x0 x1 x2 x3 x4 x5 x6 x7 xs0).2.2.1 = stPieces (arg1.view.read (Elt F) (harg1.unread x0)) (arg2.view.read (Elt F) (harg2.unread x1)) (arg4.view.read (Elt F) (harg4.unread x3)) (arg5.view.read (Elt F) (harg5.unread x4)) (arg6.view.read (Elt F) (harg6.unread x5)) (arg11.view.read (Elt F) (harg11.unread xs0)) from rfl]
  simp only [harg1.read_unread, harg2.read_unread, harg3.read_unread, harg4.read_unread, harg5.read_unread, harg6.read_unread, harg7.read_unread, harg11.read_unread]

/-- The eight stores of the output block, at the first point: the state it starts from is zero. -/
theorem pieces8_A (hc : cond0_0 i) : (kernelRun0_A c i arg1 harg1 arg2 harg2 arg3 harg3 arg4 harg4 arg5 harg5 arg6 harg6 arg7 harg7 arg8 harg8 arg9 harg9 arg10 harg10 arg11 harg11 hc x0 x1 x2 x3 x4 x5 x6 x7).1 = outPieces x0 x1 x2 x3 x4 x5 x6 k0_pay3 := by
  unfold kernelRun0_A
  dsimp only
  sl_unfold_words
  simp (disch := decide) only [↓ View.readCov_skip, ↓ View.readCov_fill, View.readAt_eq_ld, harg1.read_unread, harg2.read_unread, harg3.read_unread, harg4.read_unread, harg5.read_unread, harg6.read_unread, harg7.read_unread]
  rfl

/-- The stores of the carried state at the first point: the zero fill first, then the eight pairs. -/
theorem piecesS_A (hc : cond0_0 i) : (kernelRun0_A c i arg1 harg1 arg2 harg2 arg3 harg3 arg4 harg4 arg5 harg5 arg6 harg6 arg7 harg7 arg8 harg8 arg9 harg9 arg10 harg10 arg11 harg11 hc x0 x1 x2 x3 x4 x5 x6 x7).2.2.1 =
    stPieces x0 x1 x3 x4 x5 k0_pay3 ++ [⟨Rect.unit ![0, 0, 0, 0] S2x4x128x256.size inb_S2x4x128x256_S2x4x128x256_0_0_0_0, k0_pay3⟩] := by
  unfold kernelRun0_A
  dsimp only
  sl_unfold_words
  simp (disch := decide) only [↓ View.readCov_skip, ↓ View.readCov_fill, View.readAt_eq_ld, harg1.read_unread, harg2.read_unread, harg3.read_unread, harg4.read_unread, harg5.read_unread, harg6.read_unread, harg7.read_unread]
  rfl

/-- The output block a point after the first leaves. -/
theorem out_B (hc : ¬cond0_0 i) : out0_B_8 c i arg1 harg1 arg2 harg2 arg3 harg3 arg4 harg4 arg5 harg5 arg6 harg6 arg7 harg7 arg8 harg8 arg9 harg9 arg10 harg10 arg11 harg11 hc x0 x1 x2 x3 x4 x5 x6 x7 xs0 = outAll x0 x1 x2 x3 x4 x5 x6 xs0 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc x0 x1 x2 x3 x4 x5 x6 x7 xs0), pieces8_B c i arg1 harg1 arg2 harg2 arg3 harg3 arg4 harg4 arg5 harg5 arg6 harg6 arg7 harg7 arg8 harg8 arg9 harg9 arg10 harg10 arg11 harg11 x0 x1 x2 x3 x4 x5 x6 x7 xs0 hc]
  rw [← List.append_nil (outPieces _ _ _ _ _ _ _ _), outPieces_canon]

/-- The output block the first point leaves, from a zero state. -/
theorem out_A (hc : cond0_0 i) : out0_A_8 c i arg1 harg1 arg2 harg2 arg3 harg3 arg4 harg4 arg5 harg5 arg6 harg6 arg7 harg7 arg8 harg8 arg9 harg9 arg10 harg10 arg11 harg11 hc x0 x1 x2 x3 x4 x5 x6 x7 = outAll x0 x1 x2 x3 x4 x5 x6 k0_pay3 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc x0 x1 x2 x3 x4 x5 x6 x7), pieces8_A c i arg1 harg1 arg2 harg2 arg3 harg3 arg4 harg4 arg5 harg5 arg6 harg6 arg7 harg7 arg8 harg8 arg9 harg9 arg10 harg10 arg11 harg11 x0 x1 x2 x3 x4 x5 x6 x7 hc]
  rw [← List.append_nil (outPieces _ _ _ _ _ _ _ _), outPieces_canon]

/-- The carried state a point after the first leaves. -/
theorem sout_B (hc : ¬cond0_0 i) : sout0_B_0 c i arg1 harg1 arg2 harg2 arg3 harg3 arg4 harg4 arg5 harg5 arg6 harg6 arg7 harg7 arg8 harg8 arg9 harg9 arg10 harg10 arg11 harg11 hc x0 x1 x2 x3 x4 x5 x6 x7 xs0 = stAll x0 x1 x3 x4 x5 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc x0 x1 x2 x3 x4 x5 x6 x7 xs0), piecesS_B c i arg1 harg1 arg2 harg2 arg3 harg3 arg4 harg4 arg5 harg5 arg6 harg6 arg7 harg7 arg8 harg8 arg9 harg9 arg10 harg10 arg11 harg11 x0 x1 x2 x3 x4 x5 x6 x7 xs0 hc]
  rw [← List.append_nil (stPieces _ _ _ _ _ _), stPieces_canon]

/-- The carried state the first point leaves, from a zero state. -/
theorem sout_A (hc : cond0_0 i) : sout0_A_0 c i arg1 harg1 arg2 harg2 arg3 harg3 arg4 harg4 arg5 harg5 arg6 harg6 arg7 harg7 arg8 harg8 arg9 harg9 arg10 harg10 arg11 harg11 hc x0 x1 x2 x3 x4 x5 x6 x7 = stAll x0 x1 x3 x4 x5 k0_pay3 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc x0 x1 x2 x3 x4 x5 x6 x7), piecesS_A c i arg1 harg1 arg2 harg2 arg3 harg3 arg4 harg4 arg5 harg5 arg6 harg6 arg7 harg7 arg8 harg8 arg9 harg9 arg10 harg10 arg11 harg11 x0 x1 x2 x3 x4 x5 x6 x7 hc]
  rw [stPieces_canon]

/-- The weight block a point leaves: its slab, rounded. -/
theorem cast_A (hc : cond0_0 i) : out0_A_9 c i arg1 harg1 arg2 harg2 arg3 harg3 arg4 harg4 arg5 harg5 arg6 harg6 arg7 harg7 arg8 harg8 arg9 harg9 arg10 harg10 arg11 harg11 hc x0 x1 x2 x3 x4 x5 x6 x7 = k0_pay2 x7 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 hc x0 x1 x2 x3 x4 x5 x6 x7),
    show (kernelRun0_A c i arg1 harg1 arg2 harg2 arg3 harg3 arg4 harg4 arg5 harg5 arg6 harg6 arg7 harg7 arg8 harg8 arg9 harg9 arg10 harg10 arg11 harg11 hc x0 x1 x2 x3 x4 x5 x6 x7).2.1 =
      [⟨Rect.unit ![0, 0] S64x16384.size inb_S64x16384_S64x16384_0_0,
        k0_pay2 (View.ld (arg8.view.read (Elt F) (harg8.unread x7)) (Rect.unit ![0, 0, 0] S1x64x16384.size inb_S1x64x16384_S1x64x16384_0_0_0))⟩] from rfl,
    harg8.read_unread, View.canon_unit_zero (by funext a; fin_cases a <;> rfl), View.ld_unit_zero (by funext a; fin_cases a <;> rfl)]

/-- The weight block a point leaves: its slab, rounded. -/
theorem cast_B (hc : ¬cond0_0 i) : out0_B_9 c i arg1 harg1 arg2 harg2 arg3 harg3 arg4 harg4 arg5 harg5 arg6 harg6 arg7 harg7 arg8 harg8 arg9 harg9 arg10 harg10 arg11 harg11 hc x0 x1 x2 x3 x4 x5 x6 x7 xs0 = k0_pay2 x7 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 hc x0 x1 x2 x3 x4 x5 x6 x7 xs0),
    show (kernelRun0_B c i arg1 harg1 arg2 harg2 arg3 harg3 arg4 harg4 arg5 harg5 arg6 harg6 arg7 harg7 arg8 harg8 arg9 harg9 arg10 harg10 arg11 harg11 hc x0 x1 x2 x3 x4 x5 x6 x7 xs0).2.1 =
      [⟨Rect.unit ![0, 0] S64x16384.size inb_S64x16384_S64x16384_0_0,
        k0_pay2 (View.ld (arg8.view.read (Elt F) (harg8.unread x7)) (Rect.unit ![0, 0, 0] S1x64x16384.size inb_S1x64x16384_S1x64x16384_0_0_0))⟩] from rfl,
    harg8.read_unread, View.canon_unit_zero (by funext a; fin_cases a <;> rfl), View.ld_unit_zero (by funext a; fin_cases a <;> rfl)]

end Cert.KernelIdeal.Chunk

end
-- ==== Proof.Recurrence.lean ====
/- Gated linear attention over the reals: the recurrence of one (batch row, head) pair, and its closed form over a chunk of
   tokens. Nothing here mentions a program. -/
module

public import Idealize.ShloMosaic.Lib.Pointwise

@[expose] public section

noncomputable section

namespace Cert.Gla

open Finset

/-- The state before token `t`: it starts at zero, every token decays channel `c` by `exp (a t c)` and adds its key times its value. -/
def state (k v a : ℕ → ℕ → ℝ) : ℕ → ℕ → ℕ → ℝ
  | 0, _, _ => 0
  | t + 1, c, e => Real.exp (a t c) * state k v a t c e + k t c * v t e

/-- The log decay of channel `c` over the tokens `T, …, T + r` of a chunk starting at `T`. -/
def cum (a : ℕ → ℕ → ℝ) (T r c : ℕ) : ℝ := ∑ i ∈ range (r + 1), a (T + i) c

theorem cum_succ (a : ℕ → ℕ → ℝ) (T r c : ℕ) : cum a T (r + 1) c = cum a T r c + a (T + (r + 1)) c :=
  sum_range_succ _ _

/-- With no positive log decay, the running log decay never grows. -/
theorem cum_anti {a : ℕ → ℕ → ℝ} (ha : ∀ t c, a t c ≤ 0) (T c : ℕ) {r s : ℕ} (h : r ≤ s) : cum a T s c ≤ cum a T r c := by
  induction h with
  | refl => exact le_rfl
  | @step m _ ih => rw [cum_succ]; linarith [ha (T + (m + 1)) c]

/-- The state after token `T + r` of a chunk starting at `T`: the chunk's entry state decayed, and each of the chunk's tokens decayed
    from where it stands. -/
theorem state_chunk (k v a : ℕ → ℕ → ℝ) (T c e : ℕ) : ∀ r,
    state k v a (T + r + 1) c e = Real.exp (cum a T r c) * state k v a T c e
      + ∑ i ∈ range (r + 1), Real.exp (cum a T r c - cum a T i c) * (k (T + i) c * v (T + i) e)
  | 0 => by simp [state, cum]
  | r + 1 => by
    rw [show T + (r + 1) + 1 = (T + r + 1) + 1 by ring, state, state_chunk k v a T c e r, sum_range_succ _ (r + 1), mul_add,
      mul_sum, sub_self, Real.exp_zero, one_mul, ← mul_assoc, ← Real.exp_add, show T + r + 1 = T + (r + 1) by ring,
      add_comm (a _ c), ← cum_succ, add_assoc]
    congr 2
    refine sum_congr rfl fun i _ => ?_
    rw [← mul_assoc, ← Real.exp_add, cum_succ]
    congr 2; ring

/-- The output of token `t`: its query against the state that already holds it. -/
def out (q k v a : ℕ → ℕ → ℝ) (t e : ℕ) : ℝ := ∑ c ∈ range 128, q t c * state k v a (t + 1) c e

/-- The output of token `T + r` of a chunk of `N` tokens starting at `T`: its scores against the chunk's tokens up to itself times their
    values, and its decayed query against the entry state. -/
theorem out_chunk (q k v a : ℕ → ℕ → ℝ) (T e r N : ℕ) (hr : r < N) :
    out q k v a (T + r) e
      = ∑ i ∈ range N, (if i ≤ r then ∑ c ∈ range 128, q (T + r) c * k (T + i) c * Real.exp (cum a T r c - cum a T i c) else 0) * v (T + i) e
        + ∑ c ∈ range 128, q (T + r) c * Real.exp (cum a T r c) * state k v a T c e := by
  have hsub : range (r + 1) = (range N).filter (· ≤ r) := by
    ext i; simp only [mem_range, mem_filter]; omega
  simp only [out, state_chunk, mul_add, sum_add_distrib, ite_mul, zero_mul]
  rw [add_comm, ← sum_filter, ← hsub]
  congr 1
  · simp only [mul_sum, sum_mul]
    rw [sum_comm]
    refine sum_congr rfl fun i _ => sum_congr rfl fun c _ => by ring
  · exact sum_congr rfl fun c _ => by ring

/-! ## The levels -/

/-- The pivot row of row `r` at level `n`: the last row of the first half of the block of `2 ^ (n + 1)` rows that holds `r`. -/
def pivot (n r : ℕ) : ℕ := r / 2 ^ (n + 1) * 2 ^ (n + 1) + (2 ^ n - 1)

/-- A row between two others, decayed in two steps through it: the factors' product is the decay between the two. -/
theorem two_steps {x y p : ℝ} (hx : x ≤ p) (hy : p ≤ y) : Real.exp (-|x - p|) * Real.exp (-|y - p|) = Real.exp (x - y) := by
  rw [abs_of_nonpos (by linarith), abs_of_nonneg (by linarith), ← Real.exp_add]
  congr 1; ring

end Cert.Gla

end
-- ==== Proof.Level.lean ====
/- The level of a pair of rows: the place of the highest bit in which the two row numbers differ, as the body counts it
   (the number of leading zeros of the rows' exclusive or). -/
module

public import proofs.«01_k».proof.Proof.Recurrence
public import Idealize.ShloMosaic.Lib.Pointwise

@[expose] public section

set_option maxRecDepth 16384

noncomputable section

open Idealize.ShloMosaic

namespace Cert.Gla

/-- The level word of a pair of rows: the place of the highest bit in which they differ, below the diagonal; `-1` elsewhere. -/
def levelWord (r s : ℕ) : BitVec 32 :=
  Scalar.select (IntOp.cmpi .sgt (BitVec.ofNat 32 r) (BitVec.ofNat 32 s))
    (IntOp.subi 31#32 (IntOp.ctlz (IntOp.xori (BitVec.ofNat 32 r) (BitVec.ofNat 32 s)))) 4294967295#32

/-- Below the diagonal the two rows share their level's pivot row, which lies between them. -/
theorem level_below : ∀ r s : Fin 128, s < r → ∃ n : Fin 7, levelWord r.val s.val = BitVec.ofNat 32 n.val ∧
    pivot n.val r.val = pivot n.val s.val ∧ s.val ≤ pivot n.val r.val ∧ pivot n.val r.val ≤ r.val := by
  decide +kernel

/-- Elsewhere there is no level. -/
theorem level_above : ∀ r s : Fin 128, ¬ s < r → levelWord r.val s.val = 4294967295#32 := by
  decide +kernel

end Cert.Gla

end
-- ==== Proof.Readings.lean ====
/- The body's operations read at one index, with real numbers in: the decay factors of the seven levels, the score matrix they make,
   the output rows and the next state. -/
module

public import proofs.«01_k».proof.Proof.Pieces
public import proofs.«01_k».proof.Proof.Level
public import Idealize.ShloMosaic.Lib.Pointwise

@[expose] public section

set_option maxRecDepth 16384

noncomputable section

open Idealize.ShloMosaic Idealize.ShloMosaic.TcCoe Idealize.SL.Sem

namespace Cert.Gla

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem absf_coe {φ : FTy} (x : ℝ) : FloatOps.absf (F := Ideal) (φ := φ) ((x : ℝ) : EReal) = ((|x| : ℝ) : EReal) := by
  rw [Ideal.absf_def, ← EReal.coe_neg]; exact (EReal.coe_strictMono.monotone.map_max).symm

/-- The decay between a row and its level's pivot row. -/
def decay (cr : ℕ → ℕ → ℝ) (n r j : ℕ) : ℝ := Real.exp (-|cr r j - cr (pivot n r) j|)

theorem decay_read (cr : ℕ → ℕ → ℝ) (n r p j : ℕ) (hp : p = pivot n r) :
    Ideal.exp (0 - FloatOps.absf (F := Ideal) (φ := .f32) ((cr r j : EReal) - (cr p j : EReal))) = ((decay cr n r j : ℝ) : EReal) := by
  subst hp
  rw [← EReal.coe_sub, absf_coe, zero_sub, ← EReal.coe_neg, Ideal.exp_coe]; rfl

theorem slt_small (a b : Fin 8) : IntOp.cmpi .slt (BitVec.ofNat 32 a.val) (BitVec.ofNat 32 b.val) = BitVec.ofBool (decide (a.val < b.val)) := by
  revert a b; decide

theorem slt_mod (r b : ℕ) (hb : b < 8) {α : Type} (x y : α) :
    Scalar.select (IntOp.cmpi .slt (BitVec.ofNat 32 (r % 8)) (BitVec.ofNat 32 b)) x y = if r % 8 < b then x else y := by
  rw [slt_small ⟨r % 8, Nat.mod_lt _ (by decide)⟩ ⟨b, hb⟩]
  show (if BitVec.ofBool (decide (r % 8 < b)) = 1 then x else y) = _
  by_cases h : r % 8 < b <;> simp [h]

theorem eq_word (a b : Fin 128) : IntOp.cmpi .eq (BitVec.ofNat 32 a.val) (BitVec.ofNat 32 b.val) = BitVec.ofBool (decide (a = b)) := by
  show BitVec.ofBool (BitVec.ofNat 32 a.val == BitVec.ofNat 32 b.val) = _
  refine congrArg _ (Bool.eq_iff_iff.mpr ?_)
  rw [beq_iff_eq, decide_eq_true_iff]
  refine ⟨fun h => Fin.ext ?_, fun h => h ▸ rfl⟩
  have := congrArg BitVec.toNat h
  simp only [BitVec.toNat_ofNat] at this
  omega

/-- A diagonal term and seven level terms, of which only the pair's own is kept. -/
theorem levels_collapse (r s : Fin 128) (w5 : BitVec 1) (w4 : BitVec 32)
    (h5 : w5 = IntOp.cmpi .eq (BitVec.ofNat 32 r.val) (BitVec.ofNat 32 s.val)) (h4 : w4 = levelWord r.val s.val)
    (D X0 X1 X2 X3 X4 X5 X6 T : EReal) (hD : r = s → D = T) (hT : r < s → T = 0)
    (hX : s < r → ∀ n : Fin 7, pivot n.val r.val = pivot n.val s.val → s.val ≤ pivot n.val r.val → pivot n.val r.val ≤ r.val →
      (![X0, X1, X2, X3, X4, X5, X6] : Fin 7 → EReal) n = T) :
    Scalar.select w5 D 0 + Scalar.select (IntOp.cmpi .eq w4 0#32) X0 0 + Scalar.select (IntOp.cmpi .eq w4 1#32) X1 0
      + Scalar.select (IntOp.cmpi .eq w4 2#32) X2 0 + Scalar.select (IntOp.cmpi .eq w4 3#32) X3 0
      + Scalar.select (IntOp.cmpi .eq w4 4#32) X4 0 + Scalar.select (IntOp.cmpi .eq w4 5#32) X5 0
      + Scalar.select (IntOp.cmpi .eq w4 6#32) X6 0 = T := by
  rw [eq_word] at h5
  have z : ∀ x : EReal, Scalar.select (0#1) x 0 = 0 := fun x => rfl
  have o : ∀ x : EReal, Scalar.select (1#1) x 0 = x := fun x => rfl
  by_cases hlt : s < r
  · obtain ⟨n, hl, hp, h1, h2⟩ := level_below r s hlt
    rw [hl] at h4
    rw [decide_eq_false (ne_of_gt hlt)] at h5
    subst h4 h5
    rw [← hX hlt n hp h1 h2]
    clear hX hD hT hl hp h1 h2
    have e : ∀ a b : Fin 7, IntOp.cmpi .eq (BitVec.ofNat 32 a.val) (BitVec.ofNat 32 b.val) = if a = b then 1#1 else 0#1 := by decide
    have e0 := e n 0; have e1 := e n 1; have e2 := e n 2; have e3 := e n 3; have e4 := e n 4; have e5 := e n 5; have e6 := e n 6
    simp only [Fin.val_zero, Fin.val_one] at e0 e1
    change IntOp.cmpi .eq (BitVec.ofNat 32 n.val) 2#32 = _ at e2
    change IntOp.cmpi .eq (BitVec.ofNat 32 n.val) 3#32 = _ at e3
    change IntOp.cmpi .eq (BitVec.ofNat 32 n.val) 4#32 = _ at e4
    change IntOp.cmpi .eq (BitVec.ofNat 32 n.val) 5#32 = _ at e5
    change IntOp.cmpi .eq (BitVec.ofNat 32 n.val) 6#32 = _ at e6
    rw [e0, e1, e2, e3, e4, e5, e6]
    fin_cases n <;> simp [z, o]
  · have hl := level_above r s hlt
    rw [hl] at h4
    subst h4 h5
    have e : ∀ b : Fin 7, IntOp.cmpi .eq 4294967295#32 (BitVec.ofNat 32 b.val) = 0#1 := by decide
    have e0 := e 0; have e1 := e 1; have e2 := e 2; have e3 := e 3; have e4 := e 4; have e5 := e 5; have e6 := e 6
    change IntOp.cmpi .eq 4294967295#32 0#32 = _ at e0
    change IntOp.cmpi .eq 4294967295#32 1#32 = _ at e1
    change IntOp.cmpi .eq 4294967295#32 2#32 = _ at e2
    change IntOp.cmpi .eq 4294967295#32 3#32 = _ at e3
    change IntOp.cmpi .eq 4294967295#32 4#32 = _ at e4
    change IntOp.cmpi .eq 4294967295#32 5#32 = _ at e5
    change IntOp.cmpi .eq 4294967295#32 6#32 = _ at e6
    rw [e0, e1, e2, e3, e4, e5, e6]
    simp only [z, add_zero]
    by_cases he : r = s
    · rw [decide_eq_true he, ← hD he]; rfl
    · rw [decide_eq_false he, hT (lt_of_le_of_ne (not_lt.mp hlt) he)]; rfl

end Cert.Gla

namespace Cert.KernelIdeal.Chunk

open Cert.KernelIdeal Cert.KernelIdeal.Gen Cert.Gla

section Real

variable (cum q k : FVec Ideal S128x512 .f32) (cr qr kr : ℕ → ℕ → ℝ)
  (hc : ∀ (r : Fin 128) (j : Fin 512), cum (ix2 r j) = ((cr r.val j.val : ℝ) : EReal))
  (hq : ∀ (r : Fin 128) (j : Fin 512), q (ix2 r j) = ((qr r.val j.val : ℝ) : EReal))
  (hk : ∀ (r : Fin 128) (j : Fin 512), k (ix2 r j) = ((kr r.val j.val : ℝ) : EReal))

include hc

theorem fac_0 (r : Fin 128) (j : Fin 512) : fac0 cum (ix2 r j) = ((decay cr 0 r.val j.val : ℝ) : EReal) := by
  pointwise [fac0, k0_pay20, k0_pay16, k0_pay17, k0_pay18, k0_pay19]
  simp only [hc]
  have e2 := fun x y : EReal => slt_mod r.val 2 (by decide) x y
  have e4 := fun x y : EReal => slt_mod r.val 4 (by decide) x y
  have e6 := fun x y : EReal => slt_mod r.val 6 (by decide) x y
  simp only [e2, e4, e6]
  split_ifs with h1 h2 h3 <;> refine decay_read cr 0 _ _ _ ?_ <;> simp only [pivot] <;> omega

theorem fac_1 (r : Fin 128) (j : Fin 512) : k0_pay27 cum (ix2 r j) = ((decay cr 1 r.val j.val : ℝ) : EReal) := by
  pointwise [k0_pay27]
  simp only [hc]
  have e4 := fun x y : EReal => slt_mod r.val 4 (by decide) x y
  simp only [e4]
  split_ifs with h1 <;> refine decay_read cr 1 _ _ _ ?_ <;> simp only [pivot] <;> omega

theorem fac_2 (r : Fin 128) (j : Fin 512) : k0_pay35 cum (ix2 r j) = ((decay cr 2 r.val j.val : ℝ) : EReal) := by
  pointwise [k0_pay35]
  simp only [hc]
  exact decay_read cr 2 _ _ _ (by simp only [pivot]; omega)

theorem fac_3 (r : Fin 128) (j : Fin 512) : k0_pay42 cum (ix2 r j) = ((decay cr 3 r.val j.val : ℝ) : EReal) := by
  pointwise [k0_pay42]
  simp only [hc]
  exact decay_read cr 3 _ _ _ (by simp only [pivot]; omega)

theorem fac_4 (r : Fin 128) (j : Fin 512) : k0_pay50 cum (ix2 r j) = ((decay cr 4 r.val j.val : ℝ) : EReal) := by
  pointwise [k0_pay50]
  simp only [hc]
  exact decay_read cr 4 _ _ _ (by simp only [pivot]; omega)

theorem fac_5 (r : Fin 128) (j : Fin 512) : k0_pay57 cum (ix2 r j) = ((decay cr 5 r.val j.val : ℝ) : EReal) := by
  pointwise [k0_pay57]
  simp only [hc]
  exact decay_read cr 5 _ _ _ (by simp only [pivot]; omega)

theorem fac_6 (r : Fin 128) (j : Fin 512) : k0_pay65 cum (ix2 r j) = ((decay cr 6 r.val j.val : ℝ) : EReal) := by
  pointwise [k0_pay65]
  simp only [hc]
  exact decay_read cr 6 _ _ _ (by have := r.isLt; simp only [pivot]; omega)

omit hc

include hq hk

/-- One level's score of a pair of rows that share the level's pivot row: the query against the key, decayed from the one to the other. -/
theorem score_read (hanti : ∀ j a b, a ≤ b → cr b j ≤ cr a j) (h : Fin 4) (n : ℕ) (f : FVec Ideal S128x512 .f32)
    (hf : ∀ (r : Fin 128) (j : Fin 512), f (ix2 r j) = ((decay cr n r.val j.val : ℝ) : EReal)) (r s : Fin 128)
    (hp : pivot n r.val = pivot n s.val) (h1 : s.val ≤ pivot n r.val) (h2 : pivot n r.val ≤ r.val) :
    (∑ x : Fin 128, q (ix2 r ⟨128 * h.val + x.val, by have := h.isLt; have := x.isLt; omega⟩)
        * f (ix2 r ⟨128 * h.val + x.val, by have := h.isLt; have := x.isLt; omega⟩)
        * (k (ix2 s ⟨128 * h.val + x.val, by have := h.isLt; have := x.isLt; omega⟩)
          * f (ix2 s ⟨128 * h.val + x.val, by have := h.isLt; have := x.isLt; omega⟩)) : EReal)
      = ((∑ x : Fin 128, qr r (128 * h.val + x.val) * kr s (128 * h.val + x.val)
          * Real.exp (cr r (128 * h.val + x.val) - cr s (128 * h.val + x.val)) : ℝ) : EReal) := by
  rw [coe_sum]
  refine Finset.sum_congr rfl fun x _ => ?_
  rw [hq, hk, hf, hf, ← EReal.coe_mul, ← EReal.coe_mul, ← EReal.coe_mul]
  refine congrArg _ ?_
  show qr r (128 * h.val + x.val) * decay cr n r (128 * h.val + x.val) * (kr s (128 * h.val + x.val) * decay cr n s (128 * h.val + x.val)) = _
  rw [← two_steps (hanti _ _ _ h2) (hanti (128 * h.val + x.val) _ _ h1), decay, decay, ← hp]
  ring

include hc

/-- The score matrix: every row against itself and the rows before it, decayed from the one to the other. -/
theorem att_read (hanti : ∀ j a b, a ≤ b → cr b j ≤ cr a j) (h : Fin 4) (r s : Fin 128) :
    att (128 * h.val) (hsl h) cum q k (ix2 r s)
      = ((if s.val ≤ r.val then ∑ x : Fin 128, qr r (128 * h.val + x.val) * kr s (128 * h.val + x.val)
          * Real.exp (cr r (128 * h.val + x.val) - cr s (128 * h.val + x.val)) else 0 : ℝ) : EReal) := by
  pointwise [att, diagScore, atLevel, score]
  refine levels_collapse r s _ _ (by pointwise [k0_pay5]) (by pointwise [k0_pay4]; rfl) _ _ _ _ _ _ _ _ _ ?_ ?_ ?_
  · rintro rfl
    rw [if_pos le_rfl, coe_sum]
    refine Finset.sum_congr rfl fun x _ => ?_
    rw [sub_self, Real.exp_zero, mul_one, EReal.coe_mul]
    exact congrArg₂ _ (hq r _) (hk r _)
  · intro hlt
    rw [if_neg (show ¬ s.val ≤ r.val from not_le.mpr hlt), EReal.coe_zero]
  · intro hlt n hp h1 h2
    rw [if_pos (show s.val ≤ r.val from le_of_lt hlt)]
    have key := fun f hf => score_read q k cr qr kr hq hk hanti h n.val f hf r s hp h1 h2
    match n, key with
    | 0, key => exact key _ (fac_0 cum cr hc)
    | 1, key => exact key _ (fac_1 cum cr hc)
    | 2, key => exact key _ (fac_2 cum cr hc)
    | 3, key => exact key _ (fac_3 cum cr hc)
    | 4, key => exact key _ (fac_4 cum cr hc)
    | 5, key => exact key _ (fac_5 cum cr hc)
    | 6, key => exact key _ (fac_6 cum cr hc)

variable (v : Vec Ideal S1x128x256 .bf16) (s : Vec Ideal S1x1x128x256 .f32) (vr sr : ℕ → ℕ → ℝ)
  (hv : ∀ (r : Fin 128) (e : Fin 256), v (ix3 0 r e) = ((vr r.val e.val : ℝ) : EReal))
  (hs : ∀ (d : Fin 128) (e : Fin 256), s (ix4 0 0 d e) = ((sr d.val e.val : ℝ) : EReal))

include hv hs

/-- The output rows before the norm. -/
theorem outRaw_read (hanti : ∀ j a b, a ≤ b → cr b j ≤ cr a j) (h : Fin 4) (r : Fin 128) (e : Fin 256) :
    outRaw (128 * h.val) (hsl h) cum q k v s (ix2 r e)
      = ((∑ i : Fin 128, (if i.val ≤ r.val then ∑ x : Fin 128, qr r (128 * h.val + x.val) * kr i (128 * h.val + x.val)
            * Real.exp (cr r (128 * h.val + x.val) - cr i (128 * h.val + x.val)) else 0) * vr i e
          + ∑ x : Fin 128, qr r (128 * h.val + x.val) * Real.exp (cr r (128 * h.val + x.val)) * sr x e : ℝ) : EReal) := by
  pointwise [outRaw]
  rw [EReal.coe_add, coe_sum, coe_sum]
  refine congrArg₂ _ (Finset.sum_congr rfl fun i _ => ?_) (Finset.sum_congr rfl fun x _ => ?_)
  · rw [EReal.coe_mul]
    exact congrArg₂ _ (att_read cum q k cr qr kr hc hq hk hanti h r i) (hv i e)
  · rw [EReal.coe_mul, EReal.coe_mul, ← Ideal.exp_coe]
    exact congrArg₂ _ (congrArg₂ _ (hq r _) (congrArg _ (hc r _))) (hs x e)

omit hq

/-- The next state. -/
theorem nextState_read (h : Fin 4) (d : Fin 128) (e : Fin 256) :
    nextState (128 * h.val) (hsl h) (hsl1 h) cum k v s (ix4 0 0 d e)
      = ((Real.exp (cr 127 (128 * h.val + d.val)) * sr d e
          + ∑ i : Fin 128, kr i (128 * h.val + d.val) * Real.exp (cr 127 (128 * h.val + d.val) - cr i (128 * h.val + d.val)) * vr i e : ℝ) : EReal) := by
  pointwise [nextState, k0_pay132, k0_pay129]
  rw [EReal.coe_add, coe_sum, EReal.coe_mul, ← Ideal.exp_coe]
  refine congrArg₂ _ (congrArg₂ _ ?_ (hs d e)) (Finset.sum_congr rfl fun i _ => ?_)
  · rw [Finset.sum_eq_single d]
    · rw [show k0_pay6 (ix2 d d) = 1#1 by pointwise [k0_pay6]]
      exact congrArg Ideal.exp (hc 127 _)
    · intro b _ hb
      rw [show k0_pay6 (ix2 d b) = 0#1 by
        pointwise [k0_pay6]
        rw [eq_word, decide_eq_false (Ne.symm hb)]; rfl]
      rfl
    · intro hn; exact absurd (Finset.mem_univ _) hn
  · rw [EReal.coe_mul, EReal.coe_mul, ← Ideal.exp_coe, EReal.coe_sub]
    exact congrArg₂ _ (congrArg₂ _ (hk i _) (congrArg Ideal.exp (congrArg₂ _ (hc 127 _) (hc i _)))) (hv i e)

end Real

end Cert.KernelIdeal.Chunk

end
-- ==== Proof.Decay.lean ====
/- The log decays: the gate pre-activation to a log of a sigmoid, and its running sum over a chunk, as the body computes them. -/
module

public import proofs.«01_k».proof.Proof.Readings

@[expose] public section

set_option maxRecDepth 16384

noncomputable section

open Idealize.ShloMosaic Idealize.ShloMosaic.TcCoe Idealize.SL.Sem

namespace Cert.Gla

open Finset

theorem sge_word (a b : Fin 128) : IntOp.cmpi .sge (BitVec.ofNat 32 a.val) (BitVec.ofNat 32 b.val) = BitVec.ofBool (decide (b ≤ a)) := by
  have := a.isLt; have := b.isLt
  simp (disch := omega) only [hlo_ix]
  rfl

theorem select_self (c : BitVec 1) (x : EReal) : Scalar.select c x x = x := by unfold Scalar.select; split_ifs <;> rfl

/-- A lower triangle of ones times a column: the column's running sum. -/
theorem tri_sum (r : Fin 128) (l : ℕ → ℝ) :
    (∑ x : Fin 128, Scalar.select (IntOp.cmpi .sge (BitVec.ofNat 32 r.val) (BitVec.ofNat 32 x.val)) ((l x.val : ℝ) : EReal) 0)
      = ((∑ i ∈ range (r.val + 1), l i : ℝ) : EReal) := by
  have h : ∀ x : Fin 128, Scalar.select (IntOp.cmpi .sge (BitVec.ofNat 32 r.val) (BitVec.ofNat 32 x.val)) ((l x.val : ℝ) : EReal) 0
      = ((if x.val ≤ r.val then l x.val else 0 : ℝ) : EReal) := fun x => by
    rw [sge_word]
    by_cases hx : x ≤ r
    · rw [decide_eq_true hx, if_pos (show x.val ≤ r.val from hx)]; rfl
    · rw [decide_eq_false hx, if_neg (show ¬ x.val ≤ r.val from hx)]; rfl
  simp only [h]
  rw [← coe_sum, Fin.sum_univ_eq_sum_range (fun i => if i ≤ r.val then l i else 0), ← sum_filter]
  refine congrArg _ (sum_congr ?_ fun _ _ => rfl)
  ext i; have := r.isLt; simp only [mem_filter, mem_range]; omega

/-- A token's log decay from its gate's pre-activation: the log of the sigmoid, over sixteen. -/
def logDecay (z : ℝ) : ℝ := (min z 0 - Real.log (1 + Real.exp (-|z|))) / 16

theorem logDecay_nonpos (z : ℝ) : logDecay z ≤ 0 := by
  have h1 : min z 0 ≤ 0 := min_le_right _ _
  have h2 : 0 ≤ Real.log (1 + Real.exp (-|z|)) := Real.log_nonneg (by linarith [Real.exp_pos (-|z|)])
  unfold logDecay; linarith

theorem ofBits_sixteenth : Ideal.ofBits .f32 0x3D800000#32 = ((1 / 16 : ℝ) : EReal) := by
  simp [Ideal.ofBits, Ideal.ieee]; rw [← EReal.coe_mul]; norm_num

theorem log1p_exp_coe (x : ℝ) : Ideal.log1p (Ideal.exp (x : EReal)) = ((Real.log (1 + Real.exp x) : ℝ) : EReal) := by
  have := Real.exp_pos x
  rw [Ideal.exp_coe, Ideal.log1p, ← EReal.coe_one, ← EReal.coe_add, Ideal.log_coe, if_neg (by linarith)]

theorem logDecay_kernel (z : ℝ) :
    (min ((z : ℝ) : EReal) 0 - Ideal.log1p (Ideal.exp (0 - FloatOps.absf (F := Ideal) (φ := .f32) ((z : ℝ) : EReal)))) * Ideal.ofBits .f32 0x3D800000#32
      = ((logDecay z : ℝ) : EReal) := by
  rw [absf_coe, zero_sub, ← EReal.coe_neg, log1p_exp_coe, ofBits_sixteenth, ← EReal.coe_zero, ← EReal.coe_strictMono.monotone.map_min,
    ← EReal.coe_sub, ← EReal.coe_mul, logDecay]
  congr 1; ring

end Cert.Gla

namespace Cert.KernelIdeal.Chunk

open Cert.KernelIdeal Cert.KernelIdeal.Gen Cert.Gla

/-- The running log decay. -/
theorem cumOf_read (x : Vec Ideal S1x128x128 .f32) (w : Vec Ideal S128x512 .bf16) (b : Vec Ideal S1x512 .f32) (zr : ℕ → ℕ → ℝ)
    (hz : ∀ (r : Fin 128) (j : Fin 512),
      (∑ i : Fin 128, x (ix3 0 r i) * w (ix2 i j) + b (ix2 0 j) : EReal) = ((zr r.val j.val : ℝ) : EReal)) (r : Fin 128) (j : Fin 512) :
    cumOf x w b (ix2 r j) = ((∑ i ∈ Finset.range (r.val + 1), logDecay (zr i j.val) : ℝ) : EReal) := by
  pointwise [cumOf, k0_pay9, k0_pay7, k0_pay8, hz]
  simp only [logDecay_kernel]
  simp only [← EReal.coe_sub, sub_self, EReal.coe_zero, sub_zero, select_self, Finset.sum_const_zero, zero_add]
  exact tri_sum r fun i => logDecay (zr i j.val)

end Cert.KernelIdeal.Chunk

end
-- ==== Proof.Args.lean ====
module

public import proofs.«01_k».proof.Proof.Decay
public import proofs.«01_k».proof.Proof.Recurrence

@[expose] public section

set_option maxRecDepth 16384

noncomputable section

open Idealize.ShloMosaic Idealize.ShloMosaic.TcCoe Idealize.SL.Sem

namespace Cert.Gla

/-- The factor on the queries, `128 ^ (-1/2)` rounded to float32. -/
def scale : ℝ := (Ideal.ofBits .f32 0x3DB504F3#32).toReal

theorem scale_coe : Ideal.ofBits .f32 0x3DB504F3#32 = ((scale : ℝ) : EReal) := by
  obtain ⟨x, hx⟩ : ∃ x : ℝ, Ideal.ofBits .f32 0x3DB504F3#32 = (x : EReal) :=
    ⟨_, by simp [Ideal.ofBits, Ideal.ieee]; rw [← EReal.coe_mul]⟩
  rw [scale, hx, EReal.toReal_coe]

/-- The query of token `t` in head `h` of sequence `b`, from the projection `P`. -/
def gq (P : ℕ → ℕ → ℕ → ℝ) (b : Fin 2) (h : Fin 4) (t c : ℕ) : ℝ := P b t (3072 + (128 * h + c)) * scale
/-- Its key. -/
def gk (P : ℕ → ℕ → ℕ → ℝ) (b : Fin 2) (h : Fin 4) (t c : ℕ) : ℝ := P b t (3584 + (128 * h + c))
/-- Its value. -/
def gv (P : ℕ → ℕ → ℕ → ℝ) (b : Fin 2) (h : Fin 4) (t e : ℕ) : ℝ := P b t (4096 + (256 * h + e))
/-- Its forget gate's pre-activation in channel `j`, from the small projection `S`, the gate's weights `W` and its bias `B`. -/
def gz (S : ℕ → ℕ → ℕ → ℝ) (W : ℕ → ℕ → ℝ) (B : ℕ → ℝ) (b t j : ℕ) : ℝ := ∑ i ∈ Finset.range 16, S b t (8 + i) * W i j + B j
/-- Its log decay. -/
def ga (S : ℕ → ℕ → ℕ → ℝ) (W : ℕ → ℕ → ℝ) (B : ℕ → ℝ) (b : Fin 2) (h : Fin 4) (t c : ℕ) : ℝ := logDecay (gz S W B b t (128 * h + c))

/-- The log decay as the reference writes it: `-softplus(-z) / 16`. -/
theorem logDecay_reference (z : ℝ) :
    Ideal.exp (Ideal.div (-(max (-((z : ℝ) : EReal)) 0 + Ideal.log1p (Ideal.exp (-FloatOps.absf (F := Ideal) (φ := .f32) (-((z : ℝ) : EReal))))))
      (Ideal.ofBits .f32 0x41800000#32)) = ((Real.exp (logDecay z) : ℝ) : EReal) := by
  have h16 : Ideal.ofBits .f32 0x41800000#32 = ((16 : ℝ) : EReal) := by
    simp [Ideal.ofBits, Ideal.ieee]; rw [← EReal.coe_mul]; norm_num
  rw [← EReal.coe_neg, absf_coe, ← EReal.coe_neg, log1p_exp_coe, h16, ← EReal.coe_zero, ← EReal.coe_strictMono.monotone.map_max,
    ← EReal.coe_add, ← EReal.coe_neg, Ideal.div_coe (by norm_num), ← EReal.coe_mul, Ideal.exp_coe, logDecay, abs_neg]
  have hm : max (-z) 0 = -min z 0 := by rw [← max_neg_neg, neg_zero]
  rw [hm]
  congr 2
  ring

/-- The mixer's output at a token and a column, from the recurrence's output `o` of the token in the column's head, the column's norm
    weight `w` and its output gate `g`: the row normalised by its root mean square, weighted, and times `g · sigmoid g`. -/
def mixed (o : ℕ → ℝ) (e : ℕ) (w g : EReal) : EReal :=
  ((o e : ℝ) : EReal) * Ideal.rsqrt (Ideal.div (∑ x : Fin 256, ((o x : ℝ) : EReal) * ((o x : ℝ) : EReal)) (Ideal.ofBits .f32 0x43800000#32)
    + Ideal.ofBits .f32 0x358637BD#32) * w * (g * Ideal.div 1 (1 + Ideal.exp (-g)))

/-- The kernel's form of the sigmoid, by the hyperbolic tangent, is the logistic function. -/
theorem sigmoid_tanh (g : EReal) :
    Ideal.ofBits .f32 0x3F000000#32 * Ideal.tanh (Ideal.ofBits .f32 0x3F000000#32 * g) + Ideal.ofBits .f32 0x3F000000#32
      = Ideal.div 1 (1 + Ideal.exp (-g)) := by
  have hh : Ideal.ofBits .f32 0x3F000000#32 = ((1 / 2 : ℝ) : EReal) := by
    simp [Ideal.ofBits, Ideal.ieee]; rw [← EReal.coe_mul]; norm_num
  rw [hh]
  show _ = Ideal.logistic g
  induction g using EReal.rec with
  | bot =>
    rw [EReal.coe_mul_bot_of_pos (by norm_num), Ideal.tanh_bot, Ideal.logistic_bot]
    rw [← EReal.coe_one, ← EReal.coe_neg, ← EReal.coe_mul, ← EReal.coe_add]; norm_num
  | top =>
    rw [EReal.coe_mul_top_of_pos (by norm_num), Ideal.tanh_top, Ideal.logistic_top]
    rw [← EReal.coe_one, ← EReal.coe_mul, ← EReal.coe_add]; norm_num
  | coe x =>
    rw [← EReal.coe_mul, Ideal.tanh_coe, ← EReal.coe_mul, ← EReal.coe_add, Ideal.logistic_coe]
    congr 1
    have h1 := Real.exp_pos x
    have hp := Real.exp_pos (x / 2)
    have e2 : Real.exp (-x) = Real.exp (-(x / 2)) * Real.exp (-(x / 2)) := by rw [← Real.exp_add]; congr 1; ring
    have e3 : Real.exp (-(x / 2)) = (Real.exp (x / 2))⁻¹ := Real.exp_neg _
    rw [Real.tanh_eq_sinh_div_cosh, Real.sinh_eq, Real.cosh_eq, show 1 / 2 * x = x / 2 by ring, e2, e3]
    field_simp
    ring

end Cert.Gla

end
-- ==== Proof.ChunkReal.lean ====
module

public import proofs.«01_k».proof.Proof.Point
public import proofs.«01_k».proof.Proof.Args
public import Idealize.ShloMosaic.Lib.Pointwise

@[expose] public section

set_option maxRecDepth 16384

noncomputable section

open Idealize.ShloMosaic Idealize.ShloMosaic.TcCoe Idealize.SL.Sem

namespace Cert.KernelIdeal.Chunk

open Cert.KernelIdeal Cert.KernelIdeal.Gen Cert.Gla

/-- The blocks of the point that takes the 128 tokens from token `T` on, as real numbers: its queries and keys, its values, and its
    forget gate's pre-activations. -/
structure Blocks (T : ℕ) (P : ℕ → ℕ → ℕ → ℝ) (z : ℕ → ℕ → ℕ → ℝ) (x0 x1 : Vec Ideal S2x128x1024 .bf16) (x3 : Vec Ideal S2x128x128 .f32)
    (x4 : Vec Ideal S128x512 .bf16) (x5 : Vec Ideal S1x512 .f32) : Prop where
  qk : ∀ (b : Fin 2) (r : Fin 128) (j : Fin 1024), x0 (ix3 b r j) = ((P b (T + r) (3072 + j) : ℝ) : EReal)
  v : ∀ (b : Fin 2) (r : Fin 128) (j : Fin 1024), x1 (ix3 b r j) = ((P b (T + r) (4096 + j) : ℝ) : EReal)
  z : ∀ (b : Fin 2) (r : Fin 128) (j : Fin 512), (∑ i : Fin 128, x3 (ix3 b r i) * x4 (ix2 i j) + x5 (ix2 0 j) : EReal) = ((z b (T + r) j : ℝ) : EReal)

/-- The carried state before token `T`, as real numbers. -/
def Holds (s : Vec Ideal S2x4x128x256 .f32) (S : Fin 2 → Fin 4 → ℕ → ℕ → ℝ) : Prop :=
  ∀ (b : Fin 2) (h : Fin 4) (c : Fin 128) (e : Fin 256), s (ix4 b h c e) = ((S b h c e : ℝ) : EReal)

theorem ld_rT (s : Vec Ideal S2x4x128x256 .f32) (b : Fin 2) (h : Fin 4) (d : Fin 128) (k : Fin 256) :
    View.ld s (rT b h) (ix4 0 0 d k) = s (ix4 b h d k) := congrArg s (emb_rT b h 0 0 d k)

theorem ld_rV (x : Vec Ideal S2x128x1024 .bf16) (b : Fin 2) (h : Fin 4) (r : Fin 128) (k : Fin 256) :
    View.ld x (rV b h) (ix3 0 r k) = x (ix3 b r ⟨256 * h.val + k.val, by omega⟩) := congrArg x (emb_rV b h 0 r k)

theorem qB_read (b : Fin 2) (x0 : Vec Ideal S2x128x1024 .bf16) (r : Fin 128) (j : Fin 512) :
    qB b x0 (ix2 r j) = x0 (ix3 b r ⟨j.val, by omega⟩) * Ideal.ofBits .f32 0x3DB504F3#32 := by
  pointwise [qB, k0_pay10]

theorem kB_read (b : Fin 2) (x0 : Vec Ideal S2x128x1024 .bf16) (r : Fin 128) (j : Fin 512) :
    kB b x0 (ix2 r j) = x0 (ix3 b r ⟨512 + j.val, by omega⟩) := by
  pointwise [kB, k0_pay11]

section

variable {T : ℕ} {P z : ℕ → ℕ → ℕ → ℝ} {x0 x1 : Vec Ideal S2x128x1024 .bf16} {x3 : Vec Ideal S2x128x128 .f32}
    {x4 : Vec Ideal S128x512 .bf16} {x5 : Vec Ideal S1x512 .f32}

theorem cumB_read (H : Blocks T P z x0 x1 x3 x4 x5) (b : Fin 2) (r : Fin 128) (j : Fin 512) :
    cumB b x3 x4 x5 (ix2 r j) = ((∑ i ∈ Finset.range (r.val + 1), logDecay (z b (T + i) j) : ℝ) : EReal) := by
  refine cumOf_read _ _ _ (fun r j => z b (T + r) j) (fun r j => ?_) r j
  rw [← H.z b r j]
  pointwise

end

theorem gated_read (o : FVec Ideal S128x256 .f32) (g : Vec Ideal S1x128x256 .bf16) (w : Vec Ideal S1x256 .f32) (f : ℕ → ℝ) (r : Fin 128)
    (ho : ∀ e : Fin 256, o (ix2 r e) = ((f e : ℝ) : EReal)) (e : Fin 256) :
    gated o g w (ix3 0 r e) = mixed f e (w (ix2 0 e)) (g (ix3 0 r e)) := by
  pointwise [gated, k0_pay143]
  rw [sigmoid_tanh]
  simp only [ho]
  rfl

section

variable {T : ℕ} {P z : ℕ → ℕ → ℕ → ℝ} {x0 x1 : Vec Ideal S2x128x1024 .bf16} {x3 : Vec Ideal S2x128x128 .f32}
    {x4 : Vec Ideal S128x512 .bf16} {x5 : Vec Ideal S1x512 .f32} {s : Vec Ideal S2x4x128x256 .f32}

/-- The log decay of head `h` of sequence `b`, from the gates' pre-activations. -/
abbrev za (z : ℕ → ℕ → ℕ → ℝ) (b : Fin 2) (h : Fin 4) (t c : ℕ) : ℝ := logDecay (z b t (128 * h + c))

/-- The running sum of log decays within a chunk never grows. -/
theorem run_anti (b : Fin 2) (j a a' : ℕ) (h : a ≤ a') :
    ∑ i ∈ Finset.range (a' + 1), logDecay (z b (T + i) j) ≤ ∑ i ∈ Finset.range (a + 1), logDecay (z b (T + i) j) := by
  have := cum_anti (a := fun t c => logDecay (z b t c)) (fun t c => logDecay_nonpos _) T j h
  exact this

/-- ONE POINT, THE STATE: from the state before token `T` to the state before token `T + 128`. -/
theorem stAll_read (H : Blocks T P z x0 x1 x3 x4 x5)
    (hs : Holds s fun b h => Cert.Gla.state (gk P b h) (gv P b h) (za z b h) T) :
    Holds (stAll x0 x1 x3 x4 x5 s) fun b h => Cert.Gla.state (gk P b h) (gv P b h) (za z b h) (T + 128) := by
  intro b h d e
  show stP b h x0 x1 x3 x4 x5 (View.ld s (rT b h)) (ix4 0 0 d e) = _
  unfold stP
  refine (nextState_read (cumB b x3 x4 x5) (kB b x0) (fun r j => ∑ i ∈ Finset.range (r + 1), logDecay (z b (T + i) j))
    (fun r j => P b (T + r) (3584 + j)) (cumB_read H b)
    (fun r j => by rw [kB_read, H.qk]; show _ = ((P b (T + r) (3584 + j) : ℝ) : EReal); rw [show 3072 + (512 + j.val) = 3584 + j.val by omega])
    _ _ (fun r e => P b (T + r) (4096 + (256 * h + e))) (fun d e => Cert.Gla.state (gk P b h) (gv P b h) (za z b h) T d e)
    (fun r e => by rw [ld_rV, H.v]) (fun d e => by rw [ld_rT, hs]) h d e).trans ?_
  show _ = ((Cert.Gla.state (gk P b h) (gv P b h) (za z b h) (T + 127 + 1) d e : ℝ) : EReal)
  rw [state_chunk (gk P b h) (gv P b h) (za z b h) T d e 127, Finset.sum_range fun i => Real.exp (cum (za z b h) T 127 d - cum (za z b h) T i d) * (gk P b h (T + i) d * gv P b h (T + i) e)]
  refine congrArg _ (congrArg₂ (· + ·) rfl (Finset.sum_congr rfl fun i _ => ?_))
  show P b (T + i) (3584 + (128 * h.val + d.val)) * Real.exp (cum (za z b h) T 127 d - cum (za z b h) T i d) * P b (T + i) (4096 + (256 * h.val + e.val)) = _
  rw [gk, gv]; ring

/-- ONE POINT, THE OUTPUT: the 128 tokens from `T` on. -/
theorem outAll_read (H : Blocks T P z x0 x1 x3 x4 x5) (x2 : Vec Ideal S2x128x1024 .bf16) (x6 : Vec Ideal S1x1024 .f32)
    (hs : Holds s fun b h => Cert.Gla.state (gk P b h) (gv P b h) (za z b h) T) (b : Fin 2) (h : Fin 4) (r : Fin 128) (col : Fin 1024)
    (e : Fin 256) (he : col.val = 256 * h.val + e.val) :
    outAll x0 x1 x2 x3 x4 x5 x6 s (ix3 b r col)
      = mixed (Cert.Gla.out (gq P b h) (gk P b h) (gv P b h) (za z b h) (T + r)) e (x6 (ix2 0 col)) (x2 (ix3 b r col)) := by
  rw [outAll_at x0 x1 x2 x3 x4 x5 x6 s b h r e col he]
  unfold outP
  rw [gated_read _ _ _ (Cert.Gla.out (gq P b h) (gk P b h) (gv P b h) (za z b h) (T + r)) r ?_ e]
  · rw [ld_rV]
    refine congrArg₂ _ ?_ ?_
    · pointwise
      exact congrArg x6 (congrArg (ix2 0) (Fin.ext he.symm))
    · exact congrArg x2 (congrArg (ix3 b r) (Fin.ext he.symm))
  · intro e
    refine (outRaw_read (cumB b x3 x4 x5) (qB b x0) (kB b x0) (fun r j => ∑ i ∈ Finset.range (r + 1), logDecay (z b (T + i) j))
      (fun r j => P b (T + r) (3072 + j) * scale) (fun r j => P b (T + r) (3584 + j)) (cumB_read H b)
      (fun r j => by rw [qB_read, H.qk, scale_coe, ← EReal.coe_mul])
      (fun r j => by rw [kB_read, H.qk]; show _ = ((P b (T + r) (3584 + j) : ℝ) : EReal); rw [show 3072 + (512 + j.val) = 3584 + j.val by omega])
      _ _ (fun r e => P b (T + r) (4096 + (256 * h + e))) (fun d e => Cert.Gla.state (gk P b h) (gv P b h) (za z b h) T d e)
      (fun r e => by rw [ld_rV, H.v]) (fun d e => by rw [ld_rT, hs]) (fun j a b' hab => run_anti b j a b' hab) h r e).trans ?_
    rw [out_chunk (gq P b h) (gk P b h) (gv P b h) (za z b h) T e r 128 r.isLt]
    rw [Finset.sum_range, Finset.sum_range]
    refine congrArg _ (congrArg₂ (· + ·) (Finset.sum_congr rfl fun i _ => congrArg₂ (· * ·) (if_congr Iff.rfl ?_ rfl) rfl) rfl)
    rw [Finset.sum_range]
    rfl

end

end Cert.KernelIdeal.Chunk

end
-- ==== Proof.Blocks.lean ====
module

public import proofs.«01_k».proof.Proof.ChunkReal
public import proofs.«01_k».proof.Proof.Gen.KernelIdeal.Value
public import Idealize.ShloMosaic.Lib.Pipeline.ValueKit
public import Idealize.ShloMosaic.Lib.Routing.OpsOne

@[expose] public section

set_option maxRecDepth 16384

noncomputable section

open Idealize.ShloMosaic Idealize.ShloMosaic.TcCoe Idealize.SL.Sem

namespace Cert.KernelIdeal.Chunk

open Cert.KernelIdeal Cert.KernelIdeal.Gen Cert.Gla

variable (m : (ℓ : Loc nD τ sig) → Buf (Elt Ideal) ℓ)

/-- Which block each window stands at, at every point of the grid. -/
theorem idx : ∀ t : Fin cfg0.N, win0_0.index t = ![0, t.val, 3] ∧ win0_1.index t = ![0, t.val, 4] ∧ win0_2.index t = ![0, t.val, 5]
    ∧ win0_3.index t = ![0, t.val, 0] ∧ win0_4.index t = ![0, 0] ∧ win0_5.index t = ![0, 0] ∧ win0_6.index t = ![0, 0]
    ∧ win0_7.index t = ![0, min t.val 63, 0] ∧ win0_8.index t = ![0, t.val, 0] ∧ win0_9.index t = ![min t.val 63, 0] :=
  (by decide +kernel : ∀ t : Fin grid0.N, _)

theorem lt_65 (t : Fin cfg0.N) : t.val < 65 := t.isLt.trans_eq N_0

theorem iblk0_read (c : Dev nD) (t : Fin cfg0.N) (b : Fin 2) (r : Fin 128) (j : Fin 1024) :
    iblk m c 0 t (ix3 b r j) = m ((c : Thread nD τ).loc main_arg0) (ix3 b ⟨128 * t.val + r.val, by have := lt_65 t; omega⟩ ⟨3072 + j.val, by omega⟩) := by
  have := lt_65 t
  blk_ext [iblk, V_main_arg0, idx t]

theorem iblk1_read (c : Dev nD) (t : Fin cfg0.N) (b : Fin 2) (r : Fin 128) (j : Fin 1024) :
    iblk m c 1 t (ix3 b r j) = m ((c : Thread nD τ).loc main_arg0) (ix3 b ⟨128 * t.val + r.val, by have := lt_65 t; omega⟩ ⟨4096 + j.val, by omega⟩) := by
  have := lt_65 t
  blk_ext [iblk, V_main_arg0, idx t]

theorem iblk2_read (c : Dev nD) (t : Fin cfg0.N) (b : Fin 2) (r : Fin 128) (j : Fin 1024) :
    iblk m c 2 t (ix3 b r j) = m ((c : Thread nD τ).loc main_arg0) (ix3 b ⟨128 * t.val + r.val, by have := lt_65 t; omega⟩ ⟨5120 + j.val, by omega⟩) := by
  have := lt_65 t
  blk_ext [iblk, V_main_arg0, idx t]

theorem iblk3_read (c : Dev nD) (t : Fin cfg0.N) (b : Fin 2) (r : Fin 128) (j : Fin 128) :
    iblk m c 3 t (ix3 b r j) = m ((c : Thread nD τ).loc main_arg1) (ix3 b ⟨128 * t.val + r.val, by have := lt_65 t; omega⟩ j) := by
  have := lt_65 t
  blk_ext [iblk, V_main_arg1, idx t]

theorem iblk7_read (c : Dev nD) (t : Fin cfg0.N) (r : Fin 64) (j : Fin 16384) :
    iblk m c 7 t (ix3 0 r j) = m ((c : Thread nD τ).loc main_arg5) (ix3 0 ⟨64 * min t.val 63 + r.val, by omega⟩ j) := by
  have := lt_65 t
  blk_ext [iblk, V_main_arg5, idx t]

/-- The gate's weight as the kernel is handed it: zeros, with the 16 rows of the weight written at rows 8 to 23. -/
def padded (X2 : FVec Ideal S16x512 .f32) : FVec Ideal S128x512 .f32 :=
  Host.scatter scatter_S128x512_S1_S16x512_01_n_0_0 (fun _ b => b)
    (broadcastInDim S128x512 ![] bcast_S_S128x512 (constant (F := Ideal) S_ .f32 0x00000000#32))
    (broadcastInDim S1 ![] bcast_S_S1 (constantI S_ 32 8#32)) X2

theorem rounded_read (x : FVec Ideal S128x512 .f32) (i : Fin 128) (j : Fin 512) : truncf .bf16 x bitsLt_bf16_f32 (ix2 i j) = x (ix2 i j) := by
  pointwise

theorem V_main_v3 (c : Dev nD) : V m c main_v3 = truncf .bf16 (padded (m ((c : Thread nD τ).loc main_arg2))) bitsLt_bf16_f32 := by
  dsimp only [V, hostOps0]
  after_results
  try rfl

theorem V_main_v4 (c : Dev nD) (j : Fin 512) :
    (show FVec Ideal S1x512 .f32 from V m c main_v4) (ix2 0 j) = m ((c : Thread nD τ).loc main_arg3) (ix1 j) := by
  dsimp only [V, hostOps0]
  after_results
  pointwise

theorem V_main_v5 (c : Dev nD) (j : Fin 1024) :
    (show FVec Ideal S1x1024 .f32 from V m c main_v5) (ix2 0 j) = m ((c : Thread nD τ).loc main_arg4) (ix1 j) := by
  dsimp only [V, hostOps0]
  after_results
  pointwise

theorem iblk4_read (c : Dev nD) (t : Fin cfg0.N) (i : Fin 128) (j : Fin 512) :
    iblk m c 4 t (ix2 i j) = padded (m ((c : Thread nD τ).loc main_arg2)) (ix2 i j) := by
  refine Eq.trans ?_ (rounded_read _ i j)
  rw [← V_main_v3]
  blk_ext [iblk, idx t]

theorem iblk5_read (c : Dev nD) (t : Fin cfg0.N) (j : Fin 512) : iblk m c 5 t (ix2 0 j) = m ((c : Thread nD τ).loc main_arg3) (ix1 j) := by
  refine Eq.trans ?_ (V_main_v4 m c j)
  blk_ext [iblk, idx t]

theorem iblk6_read (c : Dev nD) (t : Fin cfg0.N) (j : Fin 1024) : iblk m c 6 t (ix2 0 j) = m ((c : Thread nD τ).loc main_arg4) (ix1 j) := by
  refine Eq.trans ?_ (V_main_v5 m c j)
  blk_ext [iblk, idx t]

/-- Entry `(i', j')` of the 16 rows lands at `(i, j)` of the padded weight exactly when `j' = j` and `i = 8 + i'`. -/
theorem lands_rows (idx : IVec S1 32) (h : (idx (ix1 0)).toInt = 8) (i' : Fin 16) (j' : Fin 512) (i : Fin 128) (j : Fin 512) :
    scatter_S128x512_S1_S16x512_01_n_0_0.resultIdx? (ix2 i' j') idx = some (ix2 i j) ↔ i.val = 8 + i'.val ∧ j' = j := by
  have hw0 : scatter_S128x512_S1_S16x512_01_n_0_0.window (ix2 i' j') 0 = i'.val := rfl
  have hw1 : scatter_S128x512_S1_S16x512_01_n_0_0.window (ix2 i' j') 1 = j'.val := rfl
  have hs1 : scatter_S128x512_S1_S16x512_01_n_0_0.start (ix2 i' j') idx 1 = 0 := rfl
  have hs0 : scatter_S128x512_S1_S16x512_01_n_0_0.start (ix2 i' j') idx 0 = 8 := by
    refine Eq.trans ?_ h
    refine congrArg BitVec.toInt (congrArg idx ?_)
    funext b
    match b with
    | ⟨0, _⟩ => exact Subsingleton.elim (α := Fin 1) _ _
  refine (Routing.resultIdx?_ix2 (R := 128) (C := 512) _ _ _ i j).trans ?_
  rw [Fin.ext_iff, hs0, hw0, hs1, hw1]
  omega

/-- Rows 8 to 23 of the padded weight are the weight's. -/
theorem padded_hit (X2 : FVec Ideal S16x512 .f32) (i : Fin 16) (j : Fin 512) : padded X2 (ix2 ⟨8 + i.val, by omega⟩ j) = X2 (ix2 i j) := by
  unfold padded
  refine Routing.scatter_set_hit _ _ _ _ _ _ (fun k hk => ?_) (ix2 i j) ((lands_rows _ rfl i j _ j).2 ⟨rfl, rfl⟩)
  obtain ⟨a, b, rfl⟩ : ∃ (a : Fin 16) (b : Fin 512), k = ix2 a b := ⟨k 0, k 1, eq_ix2 k⟩
  obtain ⟨h0, rfl⟩ := (lands_rows _ rfl a b _ j).1 hk
  obtain rfl : i = a := Fin.ext (by simpa using h0)
  rfl

/-- The padded weight's other rows are zero. -/
theorem padded_miss (X2 : FVec Ideal S16x512 .f32) (i : Fin 128) (h : i.val < 8 ∨ 24 ≤ i.val) (j : Fin 512) : padded X2 (ix2 i j) = 0 := by
  unfold padded
  refine (Routing.scatter_set_miss _ _ _ _ (ix2 i j) (fun k hk => ?_)).trans ?_
  · obtain ⟨a, b, rfl⟩ : ∃ (a : Fin 16) (b : Fin 512), k = ix2 a b := ⟨k 0, k 1, eq_ix2 k⟩
    have := ((lands_rows _ rfl a b _ j).1 hk).1
    omega
  · pointwise

end Cert.KernelIdeal.Chunk

end
-- ==== Proof.RefLoop.lean ====
module

public import proofs.«01_k».proof.Proof.Gen.ReferenceIdeal.Run
public import proofs.«01_k».proof.Proof.Decay
public import proofs.«01_k».proof.Proof.Recurrence
public import Idealize.ShloMosaic.Lib.Pointwise

@[expose] public section

set_option maxRecDepth 16384

noncomputable section

open Idealize.ShloMosaic Idealize.ShloMosaic.TcCoe Idealize.SL.Sem

namespace Cert.ReferenceIdeal.Loop

open Cert.ReferenceIdeal Cert.ReferenceIdeal.Gen Cert.ReferenceIdeal.Value Cert.Gla

/-- A word below 8320 read as an integer. -/
theorem word_toInt (t : ℕ) (ht : t < 8320) : (BitVec.ofNat 32 t).toInt = (t : ℤ) := by
  rw [BitVec.toInt_eq_toNat_of_lt (by rw [BitVec.toNat_ofNat]; omega), BitVec.toNat_ofNat]
  omega

/-- A window that fits where it asks to begin is not moved. -/
theorem start_at {s u : Shape} (hr : u.rank = s.rank) (st : Fin s.rank → ℤ) (a : Fin s.rank) (k n m : ℕ) (hk : st a = k)
    (hn : s.size a = n) (hm : u.size (a.cast hr.symm) = m) (hle : k + m ≤ n) : Host.clampedStart s u hr st a = k :=
  Host.clampedStart_of_le hr st a k hk (by rw [hn, hm]; exact hle)

/-- A row window at offsets `(t, 0, 0, 0)` of a 128-wide array begins where it asks to. -/
theorem start128 (st : Fin 4 → ℤ) (t : ℕ) (ht : t < 8320) (h0 : st 0 = t) (h1 : st 1 = 0) (h2 : st 2 = 0) (h3 : st 3 = 0) :
    Host.clampedStart S8320x2x4x128 S1x2x4x128 rfl st 0 = t ∧ Host.clampedStart S8320x2x4x128 S1x2x4x128 rfl st 1 = 0
      ∧ Host.clampedStart S8320x2x4x128 S1x2x4x128 rfl st 2 = 0 ∧ Host.clampedStart S8320x2x4x128 S1x2x4x128 rfl st 3 = 0 :=
  ⟨start_at (s := S8320x2x4x128) (u := S1x2x4x128) rfl st 0 t 8320 1 h0 rfl rfl (Nat.succ_le_of_lt ht),
    start_at (s := S8320x2x4x128) (u := S1x2x4x128) rfl st 1 0 2 2 h1 rfl rfl le_rfl,
    start_at (s := S8320x2x4x128) (u := S1x2x4x128) rfl st 2 0 4 4 h2 rfl rfl le_rfl,
    start_at (s := S8320x2x4x128) (u := S1x2x4x128) rfl st 3 0 128 128 h3 rfl rfl le_rfl⟩

/-- The same for a 256-wide array. -/
theorem start256 (st : Fin 4 → ℤ) (t : ℕ) (ht : t < 8320) (h0 : st 0 = t) (h1 : st 1 = 0) (h2 : st 2 = 0) (h3 : st 3 = 0) :
    Host.clampedStart S8320x2x4x256 S1x2x4x256 rfl st 0 = t ∧ Host.clampedStart S8320x2x4x256 S1x2x4x256 rfl st 1 = 0
      ∧ Host.clampedStart S8320x2x4x256 S1x2x4x256 rfl st 2 = 0 ∧ Host.clampedStart S8320x2x4x256 S1x2x4x256 rfl st 3 = 0 :=
  ⟨start_at (s := S8320x2x4x256) (u := S1x2x4x256) rfl st 0 t 8320 1 h0 rfl rfl (Nat.succ_le_of_lt ht),
    start_at (s := S8320x2x4x256) (u := S1x2x4x256) rfl st 1 0 2 2 h1 rfl rfl le_rfl,
    start_at (s := S8320x2x4x256) (u := S1x2x4x256) rfl st 2 0 4 4 h2 rfl rfl le_rfl,
    start_at (s := S8320x2x4x256) (u := S1x2x4x256) rfl st 3 0 256 256 h3 rfl rfl le_rfl⟩

/-- Row `t` cut out of a 128-wide array. -/
theorem slice128 (X : S8320x2x4x128.Idx → EReal) (st : Fin 4 → ℤ) (hf : S8320x2x4x128.Slices (fun _ => 0) S1x2x4x128) (t : ℕ)
    (ht : t < 8320) (h0 : st 0 = t) (h1 : st 1 = 0) (h2 : st 2 = 0) (h3 : st 3 = 0) (z : Fin 1) (b : Fin 2) (h : Fin 4) (c : Fin 128) :
    Host.dynamicSlice S1x2x4x128 X st hf (ix4 z b h c) = X (ix4 ⟨t, ht⟩ b h c) := by
  obtain ⟨e0, e1, e2, e3⟩ := start128 st t ht h0 h1 h2 h3
  rw [Host.dynamicSlice_apply]
  refine congrArg X (funext fun a => ?_)
  match a with
  | 0 => exact Fin.ext ((congrArg (· + z.val) e0).trans (by show t + z.val = t; omega))
  | 1 => exact Fin.ext ((congrArg (· + b.val) e1).trans (Nat.zero_add _))
  | 2 => exact Fin.ext ((congrArg (· + h.val) e2).trans (Nat.zero_add _))
  | 3 => exact Fin.ext ((congrArg (· + c.val) e3).trans (Nat.zero_add _))

/-- Row `t` cut out of a 256-wide array. -/
theorem slice256 (X : S8320x2x4x256.Idx → EReal) (st : Fin 4 → ℤ) (hf : S8320x2x4x256.Slices (fun _ => 0) S1x2x4x256) (t : ℕ)
    (ht : t < 8320) (h0 : st 0 = t) (h1 : st 1 = 0) (h2 : st 2 = 0) (h3 : st 3 = 0) (z : Fin 1) (b : Fin 2) (h : Fin 4) (c : Fin 256) :
    Host.dynamicSlice S1x2x4x256 X st hf (ix4 z b h c) = X (ix4 ⟨t, ht⟩ b h c) := by
  obtain ⟨e0, e1, e2, e3⟩ := start256 st t ht h0 h1 h2 h3
  rw [Host.dynamicSlice_apply]
  refine congrArg X (funext fun a => ?_)
  match a with
  | 0 => exact Fin.ext ((congrArg (· + z.val) e0).trans (by show t + z.val = t; omega))
  | 1 => exact Fin.ext ((congrArg (· + b.val) e1).trans (Nat.zero_add _))
  | 2 => exact Fin.ext ((congrArg (· + h.val) e2).trans (Nat.zero_add _))
  | 3 => exact Fin.ext ((congrArg (· + c.val) e3).trans (Nat.zero_add _))

/-- Row `t` of a 256-wide array replaced: the new row there, every other row as it was. -/
theorem update256 (X : S8320x2x4x256.Idx → EReal) (Y : S1x2x4x256.Idx → EReal) (st : Fin 4 → ℤ)
    (hf : S8320x2x4x256.Slices (fun _ => 0) S1x2x4x256) (t : ℕ) (ht : t < 8320) (h0 : st 0 = t) (h1 : st 1 = 0) (h2 : st 2 = 0)
    (h3 : st 3 = 0) (u : Fin 8320) (b : Fin 2) (h : Fin 4) (c : Fin 256) :
    Host.dynamicUpdateSlice X Y st hf (ix4 u b h c) = if u.val = t then Y (ix4 0 b h c) else X (ix4 u b h c) := by
  obtain ⟨e0, e1, e2, e3⟩ := start256 st t ht h0 h1 h2 h3
  rw [Host.dynamicUpdateSlice_apply]
  by_cases hu : u.val = t
  · rw [if_pos hu, dif_pos]
    · refine congrArg Y (funext fun a => ?_)
      match a with
      | 0 => exact Subsingleton.elim (α := Fin 1) _ _
      | 1 => exact Fin.ext ((congrArg (b.val - ·) e1).trans (Nat.sub_zero _))
      | 2 => exact Fin.ext ((congrArg (h.val - ·) e2).trans (Nat.sub_zero _))
      | 3 => exact Fin.ext ((congrArg (c.val - ·) e3).trans (Nat.sub_zero _))
    · intro a
      match a with
      | 0 => exact ⟨le_of_eq_of_le e0 hu.ge, lt_of_lt_of_eq (hu ▸ Nat.lt_succ_self _ : u.val < t + 1) (congrArg (· + 1) e0.symm)⟩
      | 1 => exact ⟨le_of_eq_of_le e1 (Nat.zero_le _), lt_of_lt_of_eq (by have := b.isLt; omega : b.val < 0 + 2) (congrArg (· + 2) e1.symm)⟩
      | 2 => exact ⟨le_of_eq_of_le e2 (Nat.zero_le _), lt_of_lt_of_eq (by have := h.isLt; omega : h.val < 0 + 4) (congrArg (· + 4) e2.symm)⟩
      | 3 => exact ⟨le_of_eq_of_le e3 (Nat.zero_le _), lt_of_lt_of_eq (by have := c.isLt; omega : c.val < 0 + 256) (congrArg (· + 256) e3.symm)⟩
  · rw [if_neg hu, dif_neg]
    intro hall
    have h0 := hall 0
    have hl : t ≤ u.val := le_of_eq_of_le e0.symm h0.1
    have hr : u.val < t + 1 := lt_of_lt_of_eq h0.2 (congrArg (· + 1) e0)
    omega

/-- The offsets of step `t`'s row windows. -/
def offs (t : ℕ) : Fin 4 → ℤ := fun k => BitVec.toInt ((![fun _ => BitVec.ofNat 32 t, constantI S_ 32 0#32, constantI S_ 32 0#32,
  constantI S_ 32 0#32] : Fin 4 → (⟨S_, .i32⟩ : BufTy).Contents (Elt Ideal)) k (Shape.Idx.first h_S_))

/-- A row of 128 laid along the state's columns, at an entry. -/
theorem keyEntry (Y : FVec Ideal S1x2x4x128 .f32) (b : Fin 2) (h : Fin 4) (c : Fin 128) (e : Fin 256) :
    broadcastInDim S2x4x128x256 ![0, 1, 2, 3] bcast_S2x4x128x1_S2x4x128x256_0_1_2_3 (broadcastInDim S2x4x128x1 ![0, 1, 2]
      bcast_S2x4x128_S2x4x128x1_0_1_2 (shapeCast S2x4x128 Y shapeCasts_S1x2x4x128_S2x4x128)) (ix4 b h c e) = Y (ix4 0 b h c) := by
  pointwise

/-- A row of 256 laid along the state's rows, at an entry. -/
theorem valueEntry (Y : FVec Ideal S1x2x4x256 .f32) (b : Fin 2) (h : Fin 4) (c : Fin 128) (e : Fin 256) :
    broadcastInDim S2x4x128x256 ![0, 1, 2, 3] bcast_S2x4x1x256_S2x4x128x256_0_1_2_3 (broadcastInDim S2x4x1x256 ![0, 1, 3]
      bcast_S2x4x256_S2x4x1x256_0_1_3 (shapeCast S2x4x256 Y shapeCasts_S1x2x4x256_S2x4x256)) (ix4 b h c e) = Y (ix4 0 b h e) := by
  pointwise

/-- The product of a row with the state, at an entry. -/
theorem queryEntry (Y : FVec Ideal S1x2x4x128 .f32) (S' : FVec Ideal S2x4x128x256 .f32) (b : Fin 2) (h : Fin 4) (e : Fin 256) :
    broadcastInDim S1x2x4x256 ![1, 2, 3] bcast_S2x4x256_S1x2x4x256_1_2_3 (Host.reduceAdd (mulf (broadcastInDim S2x4x128x256
      ![0, 1, 2, 3] bcast_S2x4x128x1_S2x4x128x256_0_1_2_3 (broadcastInDim S2x4x128x1 ![0, 1, 2] bcast_S2x4x128_S2x4x128x1_0_1_2
        (shapeCast S2x4x128 Y shapeCasts_S1x2x4x128_S2x4x128))) S') (constant S_ .f32 0x00000000#32)
          reducesTo_S2x4x128x256_S2x4x256_d2 h_S_) (ix4 0 b h e)
      = ∑ c : Fin 128, Y (ix4 0 b h c) * S' (ix4 b h c e) := by
  pointwise

/-- One step of the reference's loop on the carried state: `S[c,e] ↦ A[t,c]·S[c,e] + K[t,c]·V[t,e]`. -/
theorem stepS (V0 : Valuation τ sig (Elt Ideal)) (A K : FVec Ideal S8320x2x4x128 .f32) (V : FVec Ideal S8320x2x4x256 .f32)
    (n : IVec S_ 32) (S : FVec Ideal S2x4x128x256 .f32) (t : ℕ) (ht : t < 8320)
    (hA : V0 (Proc.devRef .tc main_v27_3) = A) (hK : V0 (Proc.devRef .tc main_v27_1) = K) (hV : V0 (Proc.devRef .tc main_v27_2) = V)
    (hn : V0 (Proc.devRef .tc main_v27_4) = n) (hS : V0 (Proc.devRef .tc main_v27_5) = S) (hn' : n = fun _ => BitVec.ofNat 32 t)
    (b : Fin 2) (h : Fin 4) (c : Fin 128) (e : Fin 256) :
    res_main_while0b_v63 V0 (ix4 b h c e)
      = A (ix4 ⟨t, ht⟩ b h c) * S (ix4 b h c e) + K (ix4 ⟨t, ht⟩ b h c) * V (ix4 ⟨t, ht⟩ b h e) := by
  unfold res_main_while0b_v63
  rw [hA, hK, hV, hn, hS, hn']
  have w0 := word_toInt t ht
  show mulf _ _ (ix4 b h c e) + mulf _ _ (ix4 b h c e) = _
  exact congrArg₂ (· + ·)
    (congrArg₂ (· * ·) ((keyEntry _ b h c e).trans
      (slice128 A (offs t) sliceFits_S8320x2x4x128_S1x2x4x128 t ht w0 rfl rfl rfl 0 b h c)) rfl)
    (congrArg₂ (· * ·) ((keyEntry _ b h c e).trans
      (slice128 K (offs t) sliceFits_S8320x2x4x128_S1x2x4x128 t ht w0 rfl rfl rfl 0 b h c))
      ((valueEntry _ b h c e).trans (slice256 V (offs t) sliceFits_S8320x2x4x256_S1x2x4x256 t ht w0 rfl rfl rfl 0 b h e)))

/-- The row a step writes, and the rows it keeps: row `t` becomes `Σ c, Q[t,c] · S'[c,e]` of the new state `S'`,
    any other row is as it was. -/
theorem stepO (V0 : Valuation τ sig (Elt Ideal)) (Q : FVec Ideal S8320x2x4x128 .f32)
    (n : IVec S_ 32) (S' : FVec Ideal S2x4x128x256 .f32) (O : FVec Ideal S8320x2x4x256 .f32) (t : ℕ) (ht : t < 8320)
    (hQ : V0 (Proc.devRef .tc main_v27_0) = Q) (hO : V0 (Proc.devRef .tc main_v27_6) = O)
    (hn : V0 (Proc.devRef .tc main_v27_4) = n) (hS : res_main_while0b_v63 V0 = S') (hn' : n = fun _ => BitVec.ofNat 32 t)
    (u : Fin 8320) (b : Fin 2) (h : Fin 4) (e : Fin 256) :
    step_main_v27_6 V0 (ix4 u b h e)
      = if u.val = t then ∑ c : Fin 128, Q (ix4 ⟨t, ht⟩ b h c) * S' (ix4 b h c e) else O (ix4 u b h e) := by
  unfold step_main_v27_6
  rw [hQ, hO, hn, hS, hn']
  have w0 := word_toInt t ht
  show Host.dynamicUpdateSlice O _ _ _ (ix4 u b h e) = _
  refine (update256 O _ (offs t) updateFits_S8320x2x4x256_S1x2x4x256 t ht w0 rfl rfl rfl u b h e).trans ?_
  refine if_congr Iff.rfl ?_ rfl
  exact (queryEntry _ S' b h e).trans (Finset.sum_congr rfl fun c _ => congrArg (· * S' (ix4 b h c e))
    (slice128 Q (offs t) sliceFits_S8320x2x4x128_S1x2x4x128 t ht w0 rfl rfl rfl 0 b h c))

/-- What the loop has done after `n` steps: it counts `n`, its state is the recurrence's state after `n` tokens, and its output's
    first `n` rows are the recurrence's outputs. -/
structure After (V : Valuation τ sig (Elt Ideal)) (q k v a : Fin 2 → Fin 4 → ℕ → ℕ → ℝ) (n : ℕ) : Prop where
  query : ∀ (t : Fin 8320) b h (c : Fin 128), (V (Proc.devRef .tc main_v27_0) : FVec Ideal S8320x2x4x128 .f32) (ix4 t b h c) = ((q b h t c : ℝ) : EReal)
  key : ∀ (t : Fin 8320) b h (c : Fin 128), (V (Proc.devRef .tc main_v27_1) : FVec Ideal S8320x2x4x128 .f32) (ix4 t b h c) = ((k b h t c : ℝ) : EReal)
  value : ∀ (t : Fin 8320) b h (c : Fin 256), (V (Proc.devRef .tc main_v27_2) : FVec Ideal S8320x2x4x256 .f32) (ix4 t b h c) = ((v b h t c : ℝ) : EReal)
  decay : ∀ (t : Fin 8320) b h (c : Fin 128), (V (Proc.devRef .tc main_v27_3) : FVec Ideal S8320x2x4x128 .f32) (ix4 t b h c) = ((Real.exp (a b h t c) : ℝ) : EReal)
  count : (V (Proc.devRef .tc main_v27_4) : IVec S_ 32) = fun _ => BitVec.ofNat 32 n
  state : ∀ b h (c : Fin 128) (e : Fin 256), (V (Proc.devRef .tc main_v27_5) : FVec Ideal S2x4x128x256 .f32) (ix4 b h c e)
    = ((Cert.Gla.state (k b h) (v b h) (a b h) n c e : ℝ) : EReal)
  rows : ∀ (t : Fin 8320) b h (e : Fin 256), t.val < n → (V (Proc.devRef .tc main_v27_6) : FVec Ideal S8320x2x4x256 .f32) (ix4 t b h e)
    = ((Cert.Gla.out (q b h) (k b h) (v b h) (a b h) t e : ℝ) : EReal)

/-- One step of the loop takes the next token. -/
theorem After.step {V : Valuation τ sig (Elt Ideal)} {q k v a : Fin 2 → Fin 4 → ℕ → ℕ → ℝ} {n : ℕ} (hn : n < 8320)
    (H : After V q k v a n) : After (STEP V) q k v a (n + 1) := by
  have hs : ∀ b h (c : Fin 128) (e : Fin 256), res_main_while0b_v63 V (ix4 b h c e)
      = ((Cert.Gla.state (k b h) (v b h) (a b h) (n + 1) c e : ℝ) : EReal) := by
    intro b h c e
    refine (stepS V _ _ _ _ _ n hn rfl rfl rfl rfl rfl H.count b h c e).trans ?_
    rw [H.decay, H.state, H.key, H.value, ← EReal.coe_mul, ← EReal.coe_mul, ← EReal.coe_add]
    rfl
  constructor
  · intro t b h c; rw [STEP_main_v27_0]; exact H.query t b h c
  · intro t b h c; rw [STEP_main_v27_1]; exact H.key t b h c
  · intro t b h c; rw [STEP_main_v27_2]; exact H.value t b h c
  · intro t b h c; rw [STEP_main_v27_3]; exact H.decay t b h c
  · rw [STEP_main_v27_4]
    show addi (V (Proc.devRef .tc main_v27_4)) (constantI S_ 32 1#32) = _
    rw [H.count]
    funext i
    show BitVec.ofNat 32 n + 1#32 = BitVec.ofNat 32 (n + 1)
    rw [BitVec.ofNat_add]
  · intro b h c e; rw [STEP_main_v27_5]; exact hs b h c e
  · intro t b h e ht
    rw [STEP_main_v27_6]
    refine (stepO V _ _ _ _ n hn rfl rfl rfl rfl H.count t b h e).trans ?_
    by_cases e0 : t.val = n
    · rw [if_pos e0]
      rw [Finset.sum_congr rfl fun c _ => by rw [H.query, hs, ← EReal.coe_mul], ← coe_sum, e0, Cert.Gla.out,
        ← Fin.sum_univ_eq_sum_range (fun c => q b h n c * Cert.Gla.state (k b h) (v b h) (a b h) (n + 1) c e)]
    · rw [if_neg e0]; exact H.rows t b h e (by omega)

/-- All the loop's steps, from its entry. -/
theorem After.iterate {V : Valuation τ sig (Elt Ideal)} {q k v a : Fin 2 → Fin 4 → ℕ → ℕ → ℝ} (H : After V q k v a 0) :
    ∀ n ≤ 8320, After (STEP^[n] V) q k v a n
  | 0, _ => H
  | n + 1, hn => by
    rw [Function.iterate_succ_apply']
    exact (After.iterate H n (by omega)).step (by omega)

end Cert.ReferenceIdeal.Loop

end
-- ==== Proof.RefEntry.lean ====
module

public import proofs.«01_k».proof.Proof.RefLoop
public import proofs.«01_k».proof.Proof.Args
public import Idealize.ShloMosaic.Lib.Pointwise

@[expose] public section

set_option maxRecDepth 16384

noncomputable section

open Idealize.ShloMosaic Idealize.ShloMosaic.TcCoe Idealize.SL.Sem Idealize.ShloMosaic.StableHlo

namespace Cert.ReferenceIdeal.Loop

open Cert.ReferenceIdeal Cert.ReferenceIdeal.Gen Cert.ReferenceIdeal.Value Cert.Gla

variable (m : (ℓ : Loc nD τ sig) → Buf (Elt Ideal) ℓ) (d : Dev nD)

/-- The forget gate's pre-activation, as the reference computes it. -/
abbrev gateIn (X1 : FVec Ideal S2x8320x128 .f32) (X2 : FVec Ideal S16x512 .f32) (X3 : FVec Ideal S512 .f32) : FVec Ideal S2x8320x512 .f32 :=
  addf (Host.dotGeneral dot_S2x8320x16_S16x512_S2x8320x512_2_0_01_1_n_n none
      (extractStridedSlice S2x8320x16 ![0, 0, 8] X1 slices_S2x8320x128_S2x8320x16_0_0_8) X2)
    (broadcastInDim S2x8320x512 ![0, 1, 2] bcast_S1x1x512_S2x8320x512_0_1_2 (broadcastInDim S1x1x512 ![2] bcast_S512_S1x1x512_2 X3))

/-- The logarithm of the sigmoid, as the reference computes it from the negated argument. -/
abbrev logSig (n z : FVec Ideal S2x8320x512 .f32) : FVec Ideal S2x8320x512 .f32 :=
  Host.negf (select (cmpf .une (subf n z) (subf n z)) (addf n z) (addf (maximumf n z) (Host.log1p (Host.exp (Host.negf (Host.absf (subf n z)))))))

set_option maxHeartbeats 1000000 in
theorem entry_decay :
    @Eq (FVec Ideal S8320x2x4x128 .f32) (entryContents preI m d (Proc.devRef .tc main_v27_3))
      <| transpose S8320x2x4x128 [1, 0, 2, 3] (shapeCast S2x8320x4x128 (Host.exp (Host.divf
          (logSig (Host.negf (gateIn (launchContents m d (Proc.devRef .tc main_arg1)) (launchContents m d (Proc.devRef .tc main_arg2))
            (launchContents m d (Proc.devRef .tc main_arg3)))) (broadcastInDim S2x8320x512 ![] bcast_S_S2x8320x512 (constant S_ .f32 0x00000000#32)))
          (broadcastInDim S2x8320x512 ![] bcast_S_S2x8320x512 (constant S_ .f32 0x41800000#32)))) shapeCasts_S2x8320x512_S2x8320x4x128)
        transposes_S2x8320x4x128_S8320x2x4x128_1_0_2_3 := by
  simp only [entryContents, afterL_cons, afterL_nil]
  after_reads_simp
  rfl

theorem entry_query :
    @Eq (FVec Ideal S8320x2x4x128 .f32) (entryContents preI m d (Proc.devRef .tc main_v27_0))
      <| transpose S8320x2x4x128 [1, 0, 2, 3] (shapeCast S2x8320x4x128 (mulf (extf .f32 (extractStridedSlice S2x8320x512 ![0, 0, 3072]
          (launchContents m d (Proc.devRef .tc main_arg0) : FVec Ideal S2x8320x14336 .bf16) slices_S2x8320x14336_S2x8320x512_0_0_3072) bitsLt_bf16_f32)
          (broadcastInDim S2x8320x512 ![] bcast_S_S2x8320x512 (constant S_ .f32 0x3DB504F3#32))) shapeCasts_S2x8320x512_S2x8320x4x128)
        transposes_S2x8320x4x128_S8320x2x4x128_1_0_2_3 := by
  simp only [entryContents, afterL_cons, afterL_nil]
  after_reads_simp
  rfl

theorem entry_key :
    @Eq (FVec Ideal S8320x2x4x128 .f32) (entryContents preI m d (Proc.devRef .tc main_v27_1))
      <| transpose S8320x2x4x128 [1, 0, 2, 3] (shapeCast S2x8320x4x128 (extf .f32 (extractStridedSlice S2x8320x512 ![0, 0, 3584]
          (launchContents m d (Proc.devRef .tc main_arg0) : FVec Ideal S2x8320x14336 .bf16) slices_S2x8320x14336_S2x8320x512_0_0_3584) bitsLt_bf16_f32)
          shapeCasts_S2x8320x512_S2x8320x4x128)
        transposes_S2x8320x4x128_S8320x2x4x128_1_0_2_3 := by
  simp only [entryContents, afterL_cons, afterL_nil]
  after_reads_simp
  rfl

theorem entry_value :
    @Eq (FVec Ideal S8320x2x4x256 .f32) (entryContents preI m d (Proc.devRef .tc main_v27_2))
      <| transpose S8320x2x4x256 [1, 0, 2, 3] (shapeCast S2x8320x4x256 (extf .f32 (extractStridedSlice S2x8320x1024 ![0, 0, 4096]
          (launchContents m d (Proc.devRef .tc main_arg0) : FVec Ideal S2x8320x14336 .bf16) slices_S2x8320x14336_S2x8320x1024_0_0_4096) bitsLt_bf16_f32)
          shapeCasts_S2x8320x1024_S2x8320x4x256)
        transposes_S2x8320x4x256_S8320x2x4x256_1_0_2_3 := by
  simp only [entryContents, afterL_cons, afterL_nil]
  after_reads_simp
  rfl

theorem entry_state (b : Fin 2) (h : Fin 4) (c : Fin 128) (e : Fin 256) :
    (show FVec Ideal S2x4x128x256 .f32 from entryContents preI m d (Proc.devRef .tc main_v27_5)) (ix4 b h c e) = 0 := by
  have e1 : @Eq (FVec Ideal S2x4x128x256 .f32) (entryContents preI m d (Proc.devRef .tc main_v27_5))
      <| broadcastInDim S2x4x128x256 ![] bcast_S_S2x4x128x256 (constant S_ .f32 0x00000000#32) := by
    simp only [entryContents, afterL_cons, afterL_nil]
    after_reads_simp
    rfl
  refine (congrFun e1 _).trans ?_
  pointwise

theorem read_query (X : FVec Ideal S2x8320x14336 .bf16) (t : Fin 8320) (b : Fin 2) (h : Fin 4) (c : Fin 128) :
    transpose S8320x2x4x128 [1, 0, 2, 3] (shapeCast S2x8320x4x128 (mulf (extf .f32 (extractStridedSlice S2x8320x512 ![0, 0, 3072]
          X slices_S2x8320x14336_S2x8320x512_0_0_3072) bitsLt_bf16_f32)
          (broadcastInDim S2x8320x512 ![] bcast_S_S2x8320x512 (constant S_ .f32 0x3DB504F3#32))) shapeCasts_S2x8320x512_S2x8320x4x128)
        transposes_S2x8320x4x128_S8320x2x4x128_1_0_2_3 (ix4 t b h c) = X (ix3 b t ⟨3072 + (h.val * 128 + c.val), by omega⟩) * Ideal.ofBits .f32 0x3DB504F3#32 := by
  pointwise

theorem read_key (X : FVec Ideal S2x8320x14336 .bf16) (t : Fin 8320) (b : Fin 2) (h : Fin 4) (c : Fin 128) :
    transpose S8320x2x4x128 [1, 0, 2, 3] (shapeCast S2x8320x4x128 (extf .f32 (extractStridedSlice S2x8320x512 ![0, 0, 3584]
          X slices_S2x8320x14336_S2x8320x512_0_0_3584) bitsLt_bf16_f32) shapeCasts_S2x8320x512_S2x8320x4x128)
        transposes_S2x8320x4x128_S8320x2x4x128_1_0_2_3 (ix4 t b h c) = X (ix3 b t ⟨3584 + (h.val * 128 + c.val), by omega⟩) := by
  pointwise

theorem read_value (X : FVec Ideal S2x8320x14336 .bf16) (t : Fin 8320) (b : Fin 2) (h : Fin 4) (c : Fin 256) :
    transpose S8320x2x4x256 [1, 0, 2, 3] (shapeCast S2x8320x4x256 (extf .f32 (extractStridedSlice S2x8320x1024 ![0, 0, 4096]
          X slices_S2x8320x14336_S2x8320x1024_0_0_4096) bitsLt_bf16_f32)
          shapeCasts_S2x8320x1024_S2x8320x4x256)
        transposes_S2x8320x4x256_S8320x2x4x256_1_0_2_3 (ix4 t b h c) = X (ix3 b t ⟨4096 + (h.val * 256 + c.val), by omega⟩) := by
  pointwise

theorem read_gateIn (X1 : FVec Ideal S2x8320x128 .f32) (X2 : FVec Ideal S16x512 .f32) (X3 : FVec Ideal S512 .f32) (b : Fin 2) (t : Fin 8320) (j : Fin 512) :
    gateIn X1 X2 X3 (ix3 b t j) = ∑ i : Fin 16, X1 (ix3 b t ⟨8 + i.val, by omega⟩) * X2 (ix2 i j) + X3 (ix1 j) := by
  pointwise

theorem read_decay (Z : FVec Ideal S2x8320x512 .f32) (z : ℕ → ℕ → ℕ → ℝ) (hz : ∀ (b : Fin 2) (t : Fin 8320) (j : Fin 512), Z (ix3 b t j) = ((z b t j : ℝ) : EReal))
    (t : Fin 8320) (b : Fin 2) (h : Fin 4) (c : Fin 128) :
    transpose S8320x2x4x128 [1, 0, 2, 3] (shapeCast S2x8320x4x128 (Host.exp (Host.divf
          (logSig (Host.negf Z) (broadcastInDim S2x8320x512 ![] bcast_S_S2x8320x512 (constant S_ .f32 0x00000000#32)))
          (broadcastInDim S2x8320x512 ![] bcast_S_S2x8320x512 (constant S_ .f32 0x41800000#32)))) shapeCasts_S2x8320x512_S2x8320x4x128)
        transposes_S2x8320x4x128_S8320x2x4x128_1_0_2_3 (ix4 t b h c) = ((Real.exp (logDecay (z b t (h.val * 128 + c.val))) : ℝ) : EReal) := by
  pointwise [hz]
  rw [if_neg (by simp)]
  exact logDecay_reference _

/-- The reference's arguments as real numbers where the layer needs them finite: the queries, keys and values, the gate's inputs, its
    weights and its bias. -/
structure Finite (X0 : FVec Ideal S2x8320x14336 .bf16) (X1 : FVec Ideal S2x8320x128 .f32) (X2 : FVec Ideal S16x512 .f32) (X3 : FVec Ideal S512 .f32)
    (P S : ℕ → ℕ → ℕ → ℝ) (W : ℕ → ℕ → ℝ) (B : ℕ → ℝ) : Prop where
  proj : ∀ (b : Fin 2) (t : Fin 8320) (j : Fin 14336), 3072 ≤ j.val → j.val < 5120 → X0 (ix3 b t j) = ((P b t j : ℝ) : EReal)
  small : ∀ (b : Fin 2) (t : Fin 8320) (i : Fin 128), 8 ≤ i.val → i.val < 24 → X1 (ix3 b t i) = ((S b t i : ℝ) : EReal)
  weight : ∀ (i : Fin 16) (j : Fin 512), X2 (ix2 i j) = ((W i j : ℝ) : EReal)
  bias : ∀ j : Fin 512, X3 (ix1 j) = ((B j : ℝ) : EReal)

/-- The loop starts with the queries, keys, values and decays of the arguments, a zero state and no row. -/
theorem entry_after {P S : ℕ → ℕ → ℕ → ℝ} {W : ℕ → ℕ → ℝ} {B : ℕ → ℝ}
    (H : Finite (launchContents m d (Proc.devRef .tc main_arg0)) (launchContents m d (Proc.devRef .tc main_arg1))
      (launchContents m d (Proc.devRef .tc main_arg2)) (launchContents m d (Proc.devRef .tc main_arg3)) P S W B) :
    After (entryContents preI m d) (gq P) (gk P) (gv P) (ga S W B) 0 := by
  have hz : ∀ (b : Fin 2) (t : Fin 8320) (j : Fin 512), gateIn (launchContents m d (Proc.devRef .tc main_arg1)) (launchContents m d (Proc.devRef .tc main_arg2))
      (launchContents m d (Proc.devRef .tc main_arg3)) (ix3 b t j) = ((gz S W B b t j : ℝ) : EReal) := by
    intro b t j
    rw [read_gateIn, gz, EReal.coe_add, H.bias, ← Fin.sum_univ_eq_sum_range (fun i => S b t (8 + i) * W i j), coe_sum]
    refine congrArg (· + _) (Finset.sum_congr rfl fun i _ => ?_)
    rw [H.small b t ⟨8 + i.val, by omega⟩ (by show 8 ≤ 8 + i.val; omega) (by show 8 + i.val < 24; omega), H.weight, EReal.coe_mul]
  constructor
  · intro t b h c
    refine (congrFun (entry_query m d) _).trans ((read_query _ t b h c).trans ?_)
    rw [H.proj b t ⟨3072 + (h.val * 128 + c.val), by omega⟩ (by show 3072 ≤ 3072 + _; omega) (by show 3072 + (h.val * 128 + c.val) < 5120; omega),
      scale_coe, ← EReal.coe_mul, gq, mul_comm 128]
  · intro t b h c
    refine (congrFun (entry_key m d) _).trans ((read_key _ t b h c).trans ?_)
    rw [H.proj b t ⟨3584 + (h.val * 128 + c.val), by omega⟩ (by show 3072 ≤ 3584 + _; omega) (by show 3584 + (h.val * 128 + c.val) < 5120; omega),
      gk, mul_comm 128]
  · intro t b h c
    refine (congrFun (entry_value m d) _).trans ((read_value _ t b h c).trans ?_)
    rw [H.proj b t ⟨4096 + (h.val * 256 + c.val), by omega⟩ (by show 3072 ≤ 4096 + _; omega) (by show 4096 + (h.val * 256 + c.val) < 5120; omega),
      gv, mul_comm 256]
  · intro t b h c
    refine (congrFun (entry_decay m d) _).trans ((read_decay _ _ hz t b h c).trans ?_)
    rw [ga, mul_comm 128]
  · exact ctr_entry m d
  · intro b h c e
    refine (entry_state m d b h c e).trans ?_
    rw [Cert.Gla.state, EReal.coe_zero]
  · intro t b h e ht
    omega

end Cert.ReferenceIdeal.Loop

end
-- ==== Proof.Points.lean ====
module

public import proofs.«01_k».proof.Proof.Blocks
public import proofs.«01_k».proof.Proof.RefEntry

@[expose] public section

set_option maxRecDepth 16384

noncomputable section

open Idealize.ShloMosaic Idealize.ShloMosaic.TcCoe Idealize.SL.Sem

namespace Cert.KernelIdeal.Chunk

open Cert.KernelIdeal Cert.KernelIdeal.Gen Cert.Gla

variable (m : (ℓ : Loc nD τ sig) → Buf (Elt Ideal) ℓ)

/-- The gate's pre-activation, as the kernel sums it over the 128 lanes of its padded weight: the other lanes' weight is zero, so
    whatever they hold drops out. -/
theorem gate_sum (s : Fin 128 → EReal) (w : Fin 128 → EReal) (S : ℕ → ℝ) (W : ℕ → ℝ) (hs : ∀ i : Fin 128, 8 ≤ i.val → i.val < 24 → s i = ((S i : ℝ) : EReal))
    (hw : ∀ i : Fin 16, w ⟨8 + i.val, by omega⟩ = ((W i : ℝ) : EReal)) (h0 : ∀ i : Fin 128, (i.val < 8 ∨ 24 ≤ i.val) → w i = 0) :
    (∑ i : Fin 128, s i * w i) = ((∑ i ∈ Finset.range 16, S (8 + i) * W i : ℝ) : EReal) := by
  have key : ∀ i : Fin 128, s i * w i = (((fun n : ℕ => if 8 ≤ n ∧ n < 24 then S n * W (n - 8) else 0) i.val : ℝ) : EReal) := fun i => by
    by_cases h : 8 ≤ i.val ∧ i.val < 24
    · have e := hw ⟨i.val - 8, by omega⟩
      rw [show (⟨8 + (⟨i.val - 8, by omega⟩ : Fin 16).val, by omega⟩ : Fin 128) = i from Fin.ext (by show 8 + (i.val - 8) = i.val; omega)] at e
      rw [hs i h.1 h.2, e, ← EReal.coe_mul]
      dsimp only
      rw [if_pos h]
    · rw [h0 i (by omega), mul_zero]
      dsimp only
      rw [if_neg h, EReal.coe_zero]
  rw [Finset.sum_congr rfl fun i _ => key i, Fin.sum_univ_eq_sum_range (fun n : ℕ => (((fun n : ℕ => if 8 ≤ n ∧ n < 24 then S n * W (n - 8) else 0) n : ℝ) : EReal)) 128,
    ← coe_sum]
  refine congrArg _ ?_
  rw [show (128 : ℕ) = 8 + (16 + 104) from rfl, Finset.sum_range_add, Finset.sum_range_add]
  have a : ∑ x ∈ Finset.range 8, (if 8 ≤ x ∧ x < 24 then S x * W (x - 8) else 0) = 0 :=
    Finset.sum_eq_zero fun x hx => if_neg (by have := Finset.mem_range.1 hx; omega)
  have b : ∑ x ∈ Finset.range 104, (if 8 ≤ 8 + (16 + x) ∧ 8 + (16 + x) < 24 then S (8 + (16 + x)) * W (8 + (16 + x) - 8) else 0) = 0 :=
    Finset.sum_eq_zero fun x hx => if_neg (by omega)
  rw [a, b, zero_add, add_zero]
  refine Finset.sum_congr rfl fun x hx => ?_
  have := Finset.mem_range.1 hx
  rw [if_pos (by omega), Nat.add_sub_cancel_left]

section

variable (c : Dev nD) {P S : ℕ → ℕ → ℕ → ℝ} {W : ℕ → ℕ → ℝ} {B : ℕ → ℝ}
  (H : Cert.ReferenceIdeal.Loop.Finite (m ((c : Thread nD τ).loc main_arg0)) (m ((c : Thread nD τ).loc main_arg1))
    (m ((c : Thread nD τ).loc main_arg2)) (m ((c : Thread nD τ).loc main_arg3)) P S W B)

include H in
/-- What stands in the input blocks of point `t`: tokens `128 t` to `128 t + 127` of the projection, and their gate. -/
theorem blocks (t : Fin cfg0.N) : Blocks (128 * t.val) P (gz S W B) (iblk m c 0 t) (iblk m c 1 t) (iblk m c 3 t) (iblk m c 4 t) (iblk m c 5 t) where
  qk b r j := (iblk0_read m c t b r j).trans (H.proj _ _ _ (by simp) (by show 3072 + j.val < 5120; omega))
  v b r j := (iblk1_read m c t b r j).trans (H.proj _ _ _ (by show 3072 ≤ 4096 + j.val; omega) (by show 4096 + j.val < 5120; omega))
  z b r j := by
    unfold gz
    rw [EReal.coe_add]
    refine congrArg₂ (· + ·) ?_ ((iblk5_read m c t j).trans (H.bias j))
    refine gate_sum _ _ (S b (128 * t.val + r.val)) (fun i => W i j) (fun i h h' => ?_) (fun i => ?_) fun i h => ?_
    · exact (iblk3_read m c t b r i).trans (H.small _ _ _ h h')
    · exact (iblk4_read m c t _ j).trans ((padded_hit _ i j).trans (H.weight i j))
    · exact (iblk4_read m c t i j).trans (padded_miss _ i h j)

/-- The carried state starts at zero. -/
theorem zero_holds : Holds (k0_pay3 (F := Ideal)) fun b h => state (gk P b h) (gv P b h) (za (gz S W B) b h) 0 := fun b h x e => by
  pointwise [k0_pay3]
  simp [state]

include H in
/-- The state carried out of point `t` is the recurrence's after `128 (t + 1)` tokens. -/
theorem state_after : ∀ (n : ℕ) (hn : n < cfg0.N),
    Holds (outsAt0 m c n hn).2.2 fun b h => state (gk P b h) (gv P b h) (za (gz S W B) b h) (128 * (n + 1)) := fun n => by
  induction n with
  | zero =>
    intro hn
    have e := congrArg (fun p => p.2.2) (outsAt0_A m c ⟨0, hn⟩ rfl)
    refine cast (congrArg (fun s => Holds s _) e.symm) ?_
    dsimp only
    rw [sout_A]
    exact stAll_read (T := 0) (blocks m c H ⟨0, hn⟩) zero_holds
  | succ n ih =>
    intro hn
    have h65 := lt_65 ⟨n + 1, hn⟩
    have e := congrArg (fun p => p.2.2) (outsAt0_B m c ⟨n + 1, hn⟩ (by show ¬ (n + 1) % 65 = 0; have : n + 1 < 65 := h65; omega))
    refine cast (congrArg (fun s => Holds s _) e.symm) ?_
    dsimp only
    rw [sout_B]
    exact stAll_read (blocks m c H ⟨n + 1, hn⟩) (ih _)

end

end Cert.KernelIdeal.Chunk

end
-- ==== Proof.Final.lean ====
module

public import proofs.«01_k».proof.Proof.Points

@[expose] public section

set_option maxRecDepth 16384

noncomputable section

open Idealize.ShloMosaic Idealize.ShloMosaic.TcCoe Idealize.SL.Sem

namespace Cert.KernelIdeal.Chunk

open Cert.KernelIdeal Cert.KernelIdeal.Gen Cert.Gla

variable (m : (ℓ : Loc nD τ sig) → Buf (Elt Ideal) ℓ)

theorem ga_za (S : ℕ → ℕ → ℕ → ℝ) (W : ℕ → ℕ → ℝ) (B : ℕ → ℝ) (b : Fin 2) (h : Fin 4) : ga S W B b h = za (gz S W B) b h := rfl

section

variable (c : Dev nD) {P S : ℕ → ℕ → ℕ → ℝ} {W : ℕ → ℕ → ℝ} {B : ℕ → ℝ}
  (H : Cert.ReferenceIdeal.Loop.Finite (m ((c : Thread nD τ).loc main_arg0)) (m ((c : Thread nD τ).loc main_arg1))
    (m ((c : Thread nD τ).loc main_arg2)) (m ((c : Thread nD τ).loc main_arg3)) P S W B)

include H in
/-- The output block after point `t`: the gated, normalised output of the recurrence at its 128 tokens. -/
theorem out_after (t : Fin cfg0.N) (b : Fin 2) (r : Fin 128) (col : Fin 1024) :
    (outsAt0 m c t.val t.isLt).1 (ix3 b r col) = mixed (out (gq P b ⟨col.val / 256, by omega⟩) (gk P b ⟨col.val / 256, by omega⟩) (gv P b ⟨col.val / 256, by omega⟩)
      (ga S W B b ⟨col.val / 256, by omega⟩) (128 * t.val + r.val)) (col.val % 256)
      (m ((c : Thread nD τ).loc main_arg4) (ix1 col))
      (m ((c : Thread nD τ).loc main_arg0) (ix3 b ⟨128 * t.val + r.val, by have := lt_65 t; omega⟩ ⟨5120 + col.val, by omega⟩)) := by
  have h65 := lt_65 t
  rw [← iblk6_read m c t col, ← iblk2_read m c t b r col, ga_za]
  have key : ∀ s, Holds s (fun b h => state (gk P b h) (gv P b h) (za (gz S W B) b h) (128 * t.val)) →
      outAll (iblk m c 0 t) (iblk m c 1 t) (iblk m c 2 t) (iblk m c 3 t) (iblk m c 4 t) (iblk m c 5 t) (iblk m c 6 t) s (ix3 b r col) = _ := fun s hs =>
    outAll_read (blocks m c H t) (iblk m c 2 t) (iblk m c 6 t) hs b ⟨col.val / 256, by omega⟩ r col ⟨col.val % 256, Nat.mod_lt _ (by decide)⟩
      (Nat.div_add_mod _ _).symm
  by_cases h0 : t.val = 0
  · refine (congrFun (congrArg (fun p => p.1) (outsAt0_A m c t (by rw [h0]))) _).trans ?_
    dsimp only
    rw [out_A]
    refine key _ ?_
    rw [h0]
    exact zero_holds
  · refine (congrFun (congrArg (fun p => p.1) (outsAt0_B m c t (by omega))) _).trans ?_
    dsimp only
    rw [out_B]
    refine key _ ?_
    have := state_after m c H (t.val - 1) (by omega)
    rwa [show t.val - 1 + 1 = t.val by omega] at this

/-- The weight block after point `t`: its slab, unchanged but for the rounding. -/
theorem cast_after (t : Fin cfg0.N) (r : Fin 64) (j : Fin 16384) :
    (outsAt0 m c t.val t.isLt).2.1 (ix2 r j) = m ((c : Thread nD τ).loc main_arg5) (ix3 0 ⟨64 * min t.val 63 + r.val, by omega⟩ j) := by
  have h65 := lt_65 t
  rw [← iblk7_read m c t r j]
  by_cases h0 : t.val % 65 = 0
  · refine (congrFun (congrArg (fun p => p.2.1) (outsAt0_A m c t h0)) _).trans ?_
    dsimp only
    rw [cast_A]
    pointwise [k0_pay2]
  · refine (congrFun (congrArg (fun p => p.2.1) (outsAt0_B m c t h0)) _).trans ?_
    dsimp only
    rw [cast_B]
    pointwise [k0_pay2]

/-- The mixer's output, entry by entry. -/
def mixer (X0 : FVec Ideal S2x8320x14336 .bf16) (X4 : FVec Ideal S1024 .f32) (P S : ℕ → ℕ → ℕ → ℝ) (W : ℕ → ℕ → ℝ) (B : ℕ → ℝ) (b : Fin 2) (t : Fin 8320) (j : Fin 1024) : EReal :=
  mixed (out (gq P b ⟨j.val / 256, by omega⟩) (gk P b ⟨j.val / 256, by omega⟩) (gv P b ⟨j.val / 256, by omega⟩)
      (ga S W B b ⟨j.val / 256, by omega⟩) t) (j.val % 256) (X4 (ix1 j)) (X0 (ix3 b t ⟨5120 + j.val, by omega⟩))

include H in
/-- The kernel's first result after the run. -/
theorem final8 : (dats m 0 c).arrAt 8 (cfgs 0).N = (fun i : S2x8320x1024.Idx =>
    mixer (m ((c : Thread nD τ).loc main_arg0)) (m ((c : Thread nD τ).loc main_arg4)) P S W B (i 0) (i 1) (i 2)) := by
  refine (dats m 0 c).arrAt_eq_of_covers 8 _ (by decide +kernel) fun t _ y => ?_
  blk_simp
  rw [after0_8]
  obtain ⟨b, r, j, rfl⟩ : ∃ (b : Fin 2) (r : Fin 128) (j : Fin 1024), y = ix3 b r j := ⟨y 0, y 1, y 2, eq_ix3 y⟩
  refine (out_after m c H t b r j).trans ?_
  have h65 := lt_65 t
  have e : ((win0_8.blk t).view.emb (ix3 b r j) : S2x8320x1024.Idx) = ix3 b ⟨128 * t.val + r.val, by omega⟩ j := by
    blk_ext [idx t]
  rw [e]
  rfl

/-- The kernel's second result after the run: layer 0 of the stacked weight. -/
theorem final9 : (dats m 0 c).arrAt 9 (cfgs 0).N = (fun i : S4096x16384.Idx => m ((c : Thread nD τ).loc main_arg5) (ix3 0 (i 0) (i 1))) := by
  refine (dats m 0 c).arrAt_eq_of_covers 9 _ (by decide +kernel) fun t _ y => ?_
  blk_simp
  rw [after0_9]
  obtain ⟨r, j, rfl⟩ : ∃ (r : Fin 64) (j : Fin 16384), y = ix2 r j := ⟨y 0, y 1, eq_ix2 y⟩
  refine (cast_after m c t r j).trans ?_
  have h65 := lt_65 t
  have e : ((win0_9.blk t).view.emb (ix2 r j) : S4096x16384.Idx) = ix2 ⟨64 * min t.val 63 + r.val, by omega⟩ j := by
    blk_ext [idx t]
  rw [e]
  rfl

end

end Cert.KernelIdeal.Chunk

end
-- ==== Proof.RefOut.lean ====
module

public import proofs.«01_k».proof.Proof.RefEntry
public import Idealize.ShloMosaic.Lib.Pointwise

@[expose] public section

set_option maxRecDepth 16384

noncomputable section

open Idealize.ShloMosaic Idealize.ShloMosaic.TcCoe Idealize.SL.Sem Idealize.ShloMosaic.StableHlo

namespace Cert.ReferenceIdeal.Loop

open Cert.ReferenceIdeal Cert.ReferenceIdeal.Gen Cert.ReferenceIdeal.Value Cert.Gla

/-- What the reference makes of the recurrence's output rows `O`, at an entry. -/
theorem out_read (V : Valuation τ sig (Elt Ideal)) (X0 : FVec Ideal S2x8320x14336 .bf16) (N : FVec Ideal S1024 .f32)
    (O : FVec Ideal S8320x2x4x256 .f32)
    (hO : V (Proc.devRef .tc main_v27_6) = O) (hN : V (Proc.devRef .tc main_arg4) = N) (hX : V (Proc.devRef .tc main_arg0) = X0)
    (b : Fin 2) (t : Fin 8320) (j : Fin 1024) :
    (show FVec Ideal S2x8320x1024 .bf16 from out_main_v47 V) (ix3 b t j) = O (ix4 t b ⟨j.val / 256, by omega⟩ ⟨j.val % 256, by omega⟩) *
          Ideal.rsqrt (Ideal.div (∑ x : Fin 256, O (ix4 t b ⟨j.val / 256, by omega⟩ x) * O (ix4 t b ⟨j.val / 256, by omega⟩ x))
            (Ideal.ofBits .f32 0x43800000#32) + Ideal.ofBits .f32 0x358637BD#32) * N (ix1 j) *
      (X0 (ix3 b t ⟨5120 + j.val, by omega⟩) * Ideal.div 1 (1 + Ideal.exp (-X0 (ix3 b t ⟨5120 + j.val, by omega⟩)))) := by
  unfold out_main_v47
  rw [hO, hN, hX]
  show truncf (F := Ideal) .bf16 (mulf (F := Ideal) _ _) _ (ix3 b t j) = _
  pointwise

/-- The reference's second result: the first layer's up-projection weights. -/
theorem cast_read (V : Valuation τ sig (Elt Ideal)) (X5 : FVec Ideal S4x4096x16384 .f32)
    (hX : V (Proc.devRef .tc main_arg5) = X5) (r : Fin 4096) (j : Fin 16384) :
    (show FVec Ideal S4096x16384 .bf16 from out_main_v50 V) (ix2 r j) = X5 (ix3 0 r j) := by
  unfold out_main_v50
  rw [hX]
  show truncf (F := Ideal) .bf16 _ _ (ix2 r j) = _
  pointwise

variable (m : (ℓ : Loc nD τ sig) → Buf (Elt Ideal) ℓ) (d : Dev nD)

/-- THE REFERENCE'S FIRST RESULT at token `t` of sequence `b`, column `j`. -/
theorem reference_out {P S : ℕ → ℕ → ℕ → ℝ} {W : ℕ → ℕ → ℝ} {B : ℕ → ℝ} (X0 : FVec Ideal S2x8320x14336 .bf16) (X1 : FVec Ideal S2x8320x128 .f32)
    (X2 : FVec Ideal S16x512 .f32) (X3 : FVec Ideal S512 .f32) (X4 : FVec Ideal S1024 .f32)
    (h0 : m ((d.tc : Thread nD τ).loc main_arg0) = X0) (h1 : m ((d.tc : Thread nD τ).loc main_arg1) = X1)
    (h2 : m ((d.tc : Thread nD τ).loc main_arg2) = X2) (h3 : m ((d.tc : Thread nD τ).loc main_arg3) = X3)
    (h4 : m ((d.tc : Thread nD τ).loc main_arg4) = X4)
    (H : Finite X0 X1 X2 X3 P S W B) (b : Fin 2) (t : Fin 8320) (j : Fin 1024) :
    (show FVec Ideal S2x8320x1024 .bf16 from out_main_v47 (STEP^[8320] (entryContents preI m d))) (ix3 b t j)
      = mixed (Cert.Gla.out (gq P b ⟨j.val / 256, by omega⟩) (gk P b ⟨j.val / 256, by omega⟩) (gv P b ⟨j.val / 256, by omega⟩)
          (ga S W B b ⟨j.val / 256, by omega⟩) t) (j.val % 256) (X4 (ix1 j)) (X0 (ix3 b t ⟨5120 + j.val, by omega⟩)) := by
  subst h0 h1 h2 h3
  have hA := (entry_after m d H).iterate 8320 le_rfl
  refine (out_read _ _ _ _ rfl ((iter_main_arg4 m d 8320).trans h4) (iter_main_arg0 m d 8320) b t j).trans ?_
  simp only [hA.rows t _ _ _ t.isLt]
  rfl

/-- THE REFERENCE'S SECOND RESULT. -/
theorem reference_cast (X5 : FVec Ideal S4x4096x16384 .f32) (h5 : m ((d.tc : Thread nD τ).loc main_arg5) = X5) (r : Fin 4096) (j : Fin 16384) :
    (show FVec Ideal S4096x16384 .bf16 from out_main_v50 (STEP^[8320] (entryContents preI m d))) (ix2 r j) = X5 (ix3 0 r j) :=
  cast_read _ _ ((iter_main_arg5 m d 8320).trans h5) r j

end Cert.ReferenceIdeal.Loop

end
-- ==== Proof.Pre.lean ====
module

public import proofs.«01_k».proof.Defs
public import proofs.«01_k».proof.Proof.RefEntry
public import Idealize.ShloMosaic.Lib.Pointwise

@[expose] public section

set_option maxRecDepth 16384

noncomputable section

open Idealize.ShloMosaic Idealize.ShloMosaic.TcCoe Idealize.SL.Sem

namespace Cert.Pre_gla_finite

/-- The shape conditions the precondition's operations take. -/
instance facts : Facts where
  slices_S2x8320x14336_S2x8320x2048_0_0_3072 := by decide
  bitsLt_bf16_f32 := by decide
  bcast_S_S2x8320x2048 := by decide
  slices_S2x8320x128_S2x8320x16_0_0_8 := by decide
  bcast_S_S2x8320x16 := by decide
  bcast_S_S16x512 := by decide
  bcast_S_S512 := by decide

/-- A value whose magnitude compares below `+∞` is a real number. -/
theorem real_of_abs_lt (x : EReal) (h : Ideal.cmp .olt (max x (-x)) (Ideal.ofBits .f32 0x7F800000#32) = 1#1) : x = ((x.toReal : ℝ) : EReal) := by
  have top : Ideal.ofBits .f32 0x7F800000#32 = ⊤ := by rfl
  rw [top] at h
  refine (EReal.coe_toReal ?_ ?_).symm
  · rintro rfl
    simp [Ideal.cmp] at h
  · rintro rfl
    simp [Ideal.cmp] at h

/-- Under the precondition the arguments the recurrence reads are real numbers. -/
theorem finite (X0 : FVec Ideal S2x8320x14336 .bf16) (X1 : FVec Ideal S2x8320x128 .f32) (X2 : FVec Ideal S16x512 .f32) (X3 : FVec Ideal S512 .f32)
    (X4 : FVec Ideal S1024 .f32) (X5 : FVec Ideal S4x4096x16384 .f32)
    (h : (fn (F := Ideal) X0 X1 X2 X3 X4 X5).1 = (fun _ => 1#1) ∧ (fn (F := Ideal) X0 X1 X2 X3 X4 X5).2.1 = (fun _ => 1#1)
      ∧ (fn (F := Ideal) X0 X1 X2 X3 X4 X5).2.2.1 = (fun _ => 1#1) ∧ (fn (F := Ideal) X0 X1 X2 X3 X4 X5).2.2.2 = (fun _ => 1#1)) :
    ∃ (P S : ℕ → ℕ → ℕ → ℝ) (W : ℕ → ℕ → ℝ) (B : ℕ → ℝ), Cert.ReferenceIdeal.Loop.Finite X0 X1 X2 X3 P S W B := by
  obtain ⟨h0, h1, h2, h3⟩ := h
  have e0 : ∀ (b : Fin 2) (t : Fin 8320) (j : Fin 2048), X0 (ix3 b t ⟨3072 + j.val, by omega⟩) = (((X0 (ix3 b t ⟨3072 + j.val, by omega⟩)).toReal : ℝ) : EReal) := fun b t j => by
    refine real_of_abs_lt _ (Eq.trans ?_ (congrFun h0 (ix3 b t j)))
    dsimp only [fn]
    pointwise
    rfl
  have e1 : ∀ (b : Fin 2) (t : Fin 8320) (j : Fin 16), X1 (ix3 b t ⟨8 + j.val, by omega⟩) = (((X1 (ix3 b t ⟨8 + j.val, by omega⟩)).toReal : ℝ) : EReal) := fun b t j => by
    refine real_of_abs_lt _ (Eq.trans ?_ (congrFun h1 (ix3 b t j)))
    dsimp only [fn]
    pointwise
    rfl
  have e2 : ∀ (i : Fin 16) (j : Fin 512), X2 (ix2 i j) = (((X2 (ix2 i j)).toReal : ℝ) : EReal) := fun i j => by
    refine real_of_abs_lt _ (Eq.trans ?_ (congrFun h2 (ix2 i j)))
    dsimp only [fn]
    pointwise
    rfl
  have e3 : ∀ j : Fin 512, X3 (ix1 j) = (((X3 (ix1 j)).toReal : ℝ) : EReal) := fun j => by
    refine real_of_abs_lt _ (Eq.trans ?_ (congrFun h3 (ix1 j)))
    dsimp only [fn]
    pointwise
    rfl
  refine ⟨fun b t j => if h : b < 2 ∧ t < 8320 ∧ j < 14336 then (X0 (ix3 ⟨b, h.1⟩ ⟨t, h.2.1⟩ ⟨j, h.2.2⟩)).toReal else 0,
    fun b t j => if h : b < 2 ∧ t < 8320 ∧ j < 128 then (X1 (ix3 ⟨b, h.1⟩ ⟨t, h.2.1⟩ ⟨j, h.2.2⟩)).toReal else 0,
    fun i j => if h : i < 16 ∧ j < 512 then (X2 (ix2 ⟨i, h.1⟩ ⟨j, h.2⟩)).toReal else 0,
    fun j => if h : j < 512 then (X3 (ix1 ⟨j, h⟩)).toReal else 0, ⟨fun b t j hl hr => ?_, fun b t j hl hr => ?_, fun i j => ?_, fun j => ?_⟩⟩
  · rw [dif_pos ⟨b.isLt, t.isLt, j.isLt⟩]
    have e := e0 b t ⟨j.val - 3072, by omega⟩
    rw [show (⟨3072 + (⟨j.val - 3072, by omega⟩ : Fin 2048).val, by omega⟩ : Fin 14336) = j from Fin.ext (by show 3072 + (j.val - 3072) = j.val; omega)] at e
    exact e
  · rw [dif_pos ⟨b.isLt, t.isLt, j.isLt⟩]
    have e := e1 b t ⟨j.val - 8, by omega⟩
    rw [show (⟨8 + (⟨j.val - 8, by omega⟩ : Fin 16).val, by omega⟩ : Fin 128) = j from Fin.ext (by show 8 + (j.val - 8) = j.val; omega)] at e
    exact e
  · rw [dif_pos ⟨i.isLt, j.isLt⟩]
    exact e2 i j
  · rw [dif_pos j.isLt]
    exact e3 j

end Cert.Pre_gla_finite

end
-- ==== Proof.Scale.lean ====
/- The root-mean-square scale of a row, from the row's 128 partial sums of squares, and when it may be taken out of a sum. -/
module

public import Idealize.ShloMosaic.PureOps
public import Idealize.ShloMosaic.Lib.Pointwise

@[expose] public section

set_option maxRecDepth 16384

noncomputable section

open Idealize.ShloMosaic Idealize.ShloMosaic.TcCoe Idealize.SL.Sem

namespace Cert.Stream

/-- The scale of a row whose sum of squares is kept as 128 partial sums. -/
def rowScale (s : Fin 128 → EReal) : EReal :=
  Ideal.rsqrt (Ideal.div (∑ l, s l) (Ideal.ofBits .f32 0x45800000#32) + Ideal.ofBits .f32 0x358637BD#32)

/-- Multiplying by the printed `1 / 4096` is dividing by 4096. -/
theorem mul_inv_4096 (x : EReal) : x * Ideal.ofBits .f32 0x39800000#32 = Ideal.div x (Ideal.ofBits .f32 0x45800000#32) := by
  have h1 : Ideal.ofBits .f32 0x39800000#32 = ((1 / 4096 : ℝ) : EReal) := by
    simp [Ideal.ofBits, Ideal.ieee]; rw [← EReal.coe_mul]; norm_num
  have h2 : Ideal.ofBits .f32 0x45800000#32 = ((4096 : ℝ) : EReal) := by
    simp [Ideal.ofBits, Ideal.ieee]; rw [← EReal.coe_mul]; norm_num
  rw [h1, h2, Ideal.div_coe (by norm_num)]

/-- The printed epsilon is positive. -/
theorem eps_pos : 0 < Ideal.ofBits .f32 0x358637BD#32 := by
  simp [Ideal.ofBits, Ideal.ieee]; rw [← EReal.coe_mul]; exact_mod_cast (by norm_num)

/-- The reciprocal square root of a positive value is neither negative nor infinite. -/
theorem rsqrt_good {a : EReal} (h : 0 < a) : 0 ≤ Ideal.rsqrt a ∧ Ideal.rsqrt a ≠ ⊤ := by
  induction a using EReal.rec with
  | bot => exact absurd h (by simp)
  | top => exact ⟨le_refl _, by rw [show Ideal.rsqrt ⊤ = 0 from rfl]; exact EReal.zero_ne_top⟩
  | coe x =>
    have hx : 0 < x := by exact_mod_cast h
    have e : Ideal.rsqrt (x : EReal) = (((Real.sqrt x)⁻¹ : ℝ) : EReal) := by
      show (if x < 0 then ⊥ else if x = 0 then ⊤ else (((Real.sqrt x)⁻¹ : ℝ) : EReal)) = _
      rw [if_neg hx.not_gt, if_neg hx.ne']
    rw [e]
    exact ⟨by exact_mod_cast inv_nonneg.mpr (Real.sqrt_nonneg x), EReal.coe_ne_top _⟩

/-- With partial sums that are not negative, the scale is neither negative nor infinite. -/
theorem rowScale_good (s : Fin 128 → EReal) (hs : ∀ l, 0 ≤ s l) : 0 ≤ rowScale s ∧ rowScale s ≠ ⊤ := by
  refine rsqrt_good (lt_of_lt_of_le eps_pos (le_add_of_nonneg_left ?_))
  rw [← mul_inv_4096]
  refine mul_nonneg (Finset.sum_nonneg fun l _ => hs l) ?_
  have h1 : Ideal.ofBits .f32 0x39800000#32 = ((1 / 4096 : ℝ) : EReal) := by
    simp [Ideal.ofBits, Ideal.ieee]; rw [← EReal.coe_mul]; norm_num
  rw [h1]
  exact_mod_cast (by norm_num)

/-- A scale that is neither negative nor infinite may be applied to the products' sum or to each left factor. -/
theorem sum_mul_scale {n : ℕ} (x w : Fin n → EReal) {r : EReal} (h0 : 0 ≤ r) (ht : r ≠ ⊤) :
    (∑ k, x k * w k) * r = ∑ k, x k * r * w k := by
  have key : ∀ s : Finset (Fin n), (∑ k ∈ s, x k * w k) * r = ∑ k ∈ s, x k * r * w k := fun s => by
    induction s using Finset.induction_on with
    | empty => simp
    | insert a s ha ih =>
      rw [Finset.sum_insert ha, Finset.sum_insert ha, EReal.right_distrib_of_nonneg_of_ne_top h0 ht, ih, mul_right_comm]
  exact key _

/-- A comparison that says `0 ≤ x`, read back. -/
theorem nonneg_of_cmp (x : EReal) (h : Ideal.cmp .oge x (Ideal.ofBits .f32 0x00000000#32) = 1#1) : 0 ≤ x := by
  have z : Ideal.ofBits .f32 0x00000000#32 = 0 := by simp [Ideal.ofBits, Ideal.ieee]
  rw [z] at h
  by_contra hx
  simp [Ideal.cmp, hx] at h

end Cert.Stream

end
-- ==== Proof.Up.lean ====
/- The up projection's call: what its two results hold after the run, entry by entry. -/
module

public import proofs.«01_k».proof.Proof.Scale
public import proofs.«01_k».proof.Proof.Gen.Kernel2Ideal.Value
public import Idealize.ShloMosaic.Lib.Pipeline.ValueKit

@[expose] public section

set_option maxRecDepth 16384

noncomputable section

open Idealize.ShloMosaic Idealize.ShloMosaic.TcCoe Idealize.SL.Sem

namespace Cert.Kernel2Ideal.Up

open Cert.Kernel2Ideal Cert.Kernel2Ideal.Gen Cert.Stream

variable (m : (ℓ : Loc nD τ sig) → Buf (Elt Ideal) ℓ)

/-- Which block each window stands at, at every point of the grid. -/
theorem idx : ∀ t : Fin cfg0.N, win0_0.index t = ![t.val / 16, 0] ∧ win0_1.index t = ![0, t.val % 16] ∧ win0_2.index t = ![t.val / 16, 0]
    ∧ win0_3.index t = ![1, min t.val 127, 0] ∧ win0_4.index t = ![t.val / 16, t.val % 16] ∧ win0_5.index t = ![min t.val 127, 0] :=
  (by decide +kernel : ∀ t : Fin grid0.N, _)

theorem lt_N (t : Fin cfg0.N) : t.val < 208 := t.isLt.trans_eq N_0

theorem iblk0_read (c : Dev nD) (t : Fin cfg0.N) (r : Fin 1280) (k : Fin 4096) :
    iblk m c 0 t (ix2 r k) = m ((c : Thread nD τ).loc main_arg0) (ix2 ⟨1280 * (t.val / 16) + r.val, by have := lt_N t; omega⟩ k) := by
  have := lt_N t
  blk_ext [iblk, V_main_arg0, idx t]

theorem iblk1_read (c : Dev nD) (t : Fin cfg0.N) (k : Fin 4096) (j : Fin 1024) :
    iblk m c 1 t (ix2 k j) = m ((c : Thread nD τ).loc main_arg2) (ix2 k ⟨1024 * (t.val % 16) + j.val, by omega⟩) := by
  have := lt_N t
  blk_ext [iblk, V_main_arg2, idx t]

theorem iblk2_read (c : Dev nD) (t : Fin cfg0.N) (r : Fin 1280) (l : Fin 128) :
    iblk m c 2 t (ix2 r l) = m ((c : Thread nD τ).loc main_arg1) (ix2 ⟨1280 * (t.val / 16) + r.val, by have := lt_N t; omega⟩ l) := by
  have := lt_N t
  blk_ext [iblk, V_main_arg1, idx t]

theorem iblk3_read (c : Dev nD) (t : Fin cfg0.N) (r : Fin 32) (j : Fin 4096) :
    iblk m c 3 t (ix3 0 r j) = m ((c : Thread nD τ).loc main_arg3) (ix3 1 ⟨32 * min t.val 127 + r.val, by omega⟩ j) := by
  have := lt_N t
  blk_ext [iblk, V_main_arg3, idx t]

/-- The scale the first column block of a row block computes. -/
theorem scale_read (v : FVec Ideal S1280x128 .f32) (r : Fin 1280)  : k0_pay2 (F := Ideal) v (ix2 r 0) = rowScale fun l => v (ix2 r l) := by
  unfold rowScale
  rw [← mul_inv_4096]
  pointwise [k0_pay2]

/-- The cast of the weight's slab. -/
theorem cast_read (v : FVec Ideal S1x32x4096 .f32) (r : Fin 32) (j : Fin 4096) : k0_pay1 (F := Ideal) v (ix2 r j) = v (ix3 0 r j) := by
  pointwise [k0_pay1]

/-- The squared rectifier of a value. -/
def sqRelu (x : EReal) : EReal := max x 0 * max x 0

/-- The block of the product: each row's product scaled, rectified and squared. -/
theorem product_read (x : FVec Ideal S1280x4096 .bf16) (w : FVec Ideal S4096x1024 .bf16) (s : FVec Ideal S1280x1 .f32) (r : Fin 1280) (j : Fin 1024) :
    k0_pay3 (F := Ideal) x w s (ix2 r j) = sqRelu ((∑ k, x (ix2 r k) * w (ix2 k j)) * s (ix2 r 0)) := by
  pointwise [k0_pay3]
  rfl

/-- The scale of row `r` of the whole array of partial sums. -/
def scaleAt (X1 : FVec Ideal S16640x128 .f32) (r : Fin 16640) : EReal := rowScale fun l => X1 (ix2 r l)

/-- The product at a row and a column of the whole arrays. -/
def prodAt (X0 : FVec Ideal S16640x4096 .bf16) (X2 : FVec Ideal S4096x16384 .bf16) (r : Fin 16640) (j : Fin 16384) : EReal :=
  ∑ k : Fin 4096, X0 (ix2 r k) * X2 (ix2 k j)

theorem row_lt (n : ℕ) (hn : n < cfg0.N) (r : Fin 1280) : 1280 * (n / 16) + r.val < 16640 := by
  have : n < 208 := lt_N ⟨n, hn⟩
  omega

/-- The carried scale after point `n`: that of the row block the point works on. -/
theorem scale_after (c : Dev nD) : ∀ (n : ℕ) (hn : n < cfg0.N) (r : Fin 1280),
    (outsAt0 m c n hn).2.2 (ix2 r 0)
      = scaleAt (m ((c : Thread nD τ).loc main_arg1)) ⟨1280 * (n / 16) + r.val, row_lt n hn r⟩ := by
  have first : ∀ (n : ℕ) (hn : n < cfg0.N) (r : Fin 1280) (h0 : n % 16 = 0), (outsAt0 m c n hn).2.2 (ix2 r 0)
      = scaleAt (m ((c : Thread nD τ).loc main_arg1)) ⟨1280 * (n / 16) + r.val, row_lt n hn r⟩ := fun n hn r h0 => by
    refine (congrFun (congrArg (fun p => p.2.2) (outsAt0_A m c ⟨n, hn⟩ h0)) _).trans ?_
    dsimp only
    frame_out
    rw [scale_read]
    exact congrArg rowScale (funext fun l => iblk2_read m c ⟨n, hn⟩ r l)
  intro n
  induction n with
  | zero => exact fun hn r => first 0 hn r rfl
  | succ n ih =>
    intro hn r
    by_cases h0 : (n + 1) % 16 = 0
    · exact first _ hn r h0
    · have h1 : n < cfg0.N := Nat.lt_of_succ_lt hn
      have b := congrArg (fun p => p.2.2) (outsAt0_B m c ⟨n + 1, hn⟩ h0)
      dsimp only at b
      refine (congrFun b _).trans ?_
      unfold sout0_B_0
      have e : n / 16 = (n + 1) / 16 := by omega
      refine (ih h1 r).trans (congrArg (scaleAt _) (Fin.ext ?_))
      show 1280 * (n / 16) + r.val = 1280 * ((n + 1) / 16) + r.val
      rw [e]

/-- The first result's block after point `t`. -/
theorem product_after (c : Dev nD) (t : Fin cfg0.N) (r : Fin 1280) (j : Fin 1024) :
    (outsAt0 m c t.val t.isLt).1 (ix2 r j)
      = sqRelu (prodAt (m ((c : Thread nD τ).loc main_arg0)) (m ((c : Thread nD τ).loc main_arg2)) ⟨1280 * (t.val / 16) + r.val, row_lt _ t.isLt r⟩
          ⟨1024 * (t.val % 16) + j.val, by omega⟩
        * scaleAt (m ((c : Thread nD τ).loc main_arg1)) ⟨1280 * (t.val / 16) + r.val, row_lt _ t.isLt r⟩) := by
  have hN := lt_N t
  by_cases h0 : t.val % 16 = 0
  · refine (congrFun (congrArg (fun p => p.1) (outsAt0_A m c t h0)) _).trans ?_
    dsimp only
    frame_out
    rw [product_read, scale_read]
    simp only [iblk0_read, iblk1_read, iblk2_read]
    rfl
  · refine (congrFun (congrArg (fun p => p.1) (outsAt0_B m c t h0)) _).trans ?_
    dsimp only
    frame_out
    rw [product_read]
    simp only [iblk0_read, iblk1_read]
    have e : (t.val - 1) / 16 = t.val / 16 := by omega
    refine congrArg sqRelu (congrArg (prodAt _ _ _ _ * ·) ?_)
    refine (congrFun ((Memref.isWhole_whole cc0_scratch0).read_unread _) _).trans ((scale_after m c _ _ r).trans ?_)
    refine congrArg (scaleAt _) (Fin.ext ?_)
    show 1280 * ((t.val - 1) / 16) + r.val = 1280 * (t.val / 16) + r.val
    rw [e]

/-- The second result's block after point `t`: the weight's slab. -/
theorem cast_after (c : Dev nD) (t : Fin cfg0.N) (r : Fin 32) (j : Fin 4096) :
    (outsAt0 m c t.val t.isLt).2.1 (ix2 r j) = m ((c : Thread nD τ).loc main_arg3) (ix3 1 ⟨32 * min t.val 127 + r.val, by omega⟩ j) := by
  rw [← iblk3_read m c t r j]
  by_cases h0 : t.val % 16 = 0
  · refine (congrFun (congrArg (fun p => p.2.1) (outsAt0_A m c t h0)) _).trans ?_
    dsimp only
    frame_out
    exact cast_read _ r j
  · refine (congrFun (congrArg (fun p => p.2.1) (outsAt0_B m c t h0)) _).trans ?_
    dsimp only
    frame_out
    exact cast_read _ r j

/-- The up projection entry by entry, with the scale inside the product's sum. -/
def up (X0 : FVec Ideal S16640x4096 .bf16) (X1 : FVec Ideal S16640x128 .f32) (X2 : FVec Ideal S4096x16384 .bf16) (r : Fin 16640) (j : Fin 16384) : EReal :=
  sqRelu (∑ k : Fin 4096, X0 (ix2 r k) * scaleAt X1 r * X2 (ix2 k j))

/-- With partial sums that are not negative, the scale may be applied to each left factor. -/
theorem scaled (X0 : FVec Ideal S16640x4096 .bf16) (X1 : FVec Ideal S16640x128 .f32) (X2 : FVec Ideal S4096x16384 .bf16)
    (H : ∀ i, (0 : EReal) ≤ X1 i) (r : Fin 16640) (j : Fin 16384) :
    prodAt X0 X2 r j * scaleAt X1 r = ∑ k : Fin 4096, X0 (ix2 r k) * scaleAt X1 r * X2 (ix2 k j) := by
  have g := rowScale_good (fun l => X1 (ix2 r l)) fun l => H _
  exact sum_mul_scale _ _ g.1 g.2

/-- The kernel's first result after the run. -/
theorem final4 (c : Dev nD) (H : ∀ i, (0 : EReal) ≤ (m ((c : Thread nD τ).loc main_arg1) : FVec Ideal S16640x128 .f32) i) :
    (dats m 0 c).arrAt 4 (cfgs 0).N = (fun i : S16640x16384.Idx =>
      up (m ((c : Thread nD τ).loc main_arg0)) (m ((c : Thread nD τ).loc main_arg1)) (m ((c : Thread nD τ).loc main_arg2)) (i 0) (i 1)) := by
  refine (dats m 0 c).arrAt_eq_of_covers 4 _ (by decide +kernel) fun t _ y => ?_
  blk_simp
  rw [after0_4]
  obtain ⟨r, j, rfl⟩ : ∃ (r : Fin 1280) (j : Fin 1024), y = ix2 r j := ⟨y 0, y 1, eq_ix2 y⟩
  refine (product_after m c t r j).trans ?_
  have hN := lt_N t
  have e : ((win0_4.blk t).view.emb (ix2 r j) : S16640x16384.Idx) = ix2 ⟨1280 * (t.val / 16) + r.val, by omega⟩ ⟨1024 * (t.val % 16) + j.val, by omega⟩ := by
    blk_ext [idx t]
  rw [e]
  exact congrArg sqRelu (scaled (m ((c : Thread nD τ).loc main_arg0)) (m ((c : Thread nD τ).loc main_arg1)) (m ((c : Thread nD τ).loc main_arg2)) H _ _)

/-- The kernel's second result after the run: the weight of layer 1. -/
theorem final5 (c : Dev nD) : (dats m 0 c).arrAt 5 (cfgs 0).N = (fun i : S4096x4096.Idx =>
    m ((c : Thread nD τ).loc main_arg3) (ix3 1 (i 0) (i 1))) := by
  refine (dats m 0 c).arrAt_eq_of_covers 5 _ (by decide +kernel) fun t _ y => ?_
  blk_simp
  rw [after0_5]
  obtain ⟨r, j, rfl⟩ : ∃ (r : Fin 32) (j : Fin 4096), y = ix2 r j := ⟨y 0, y 1, eq_ix2 y⟩
  refine (cast_after m c t r j).trans ?_
  have hN := lt_N t
  have e : ((win0_5.blk t).view.emb (ix2 r j) : S4096x4096.Idx) = ix2 ⟨32 * min t.val 127 + r.val, by omega⟩ j := by
    blk_ext [idx t]
  rw [e]
  rfl

end Cert.Kernel2Ideal.Up

end
-- ==== Proof.UpRef.lean ====
/- The up projection: the reference's two results, and their equality with the kernel's. -/
module

public import proofs.«01_k».proof.Defs
public import proofs.«01_k».proof.Proof.Up
public import proofs.«01_k».proof.Proof.Gen.Reference2Ideal.Run
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Pre_up_sums_nonneg

/-- The shape condition the precondition's operation takes. -/
instance facts : Facts where
  bcast_S_S16640x128 := by decide

/-- Under the precondition no partial sum of squares is negative. -/
theorem nonneg (X0 : FVec Ideal S16640x4096 .bf16) (X1 : FVec Ideal S16640x128 .f32) (X2 : FVec Ideal S4096x16384 .bf16) (X3 : FVec Ideal S4x4096x4096 .f32)
    (h : fn (F := Ideal) X0 X1 X2 X3 = (fun _ => 1#1)) (i : S16640x128.Idx) : (0 : EReal) ≤ X1 i := by
  refine Cert.Stream.nonneg_of_cmp _ (Eq.trans ?_ (congrFun h i))
  dsimp only [fn]
  rfl

end Cert.Pre_up_sums_nonneg

namespace Cert.Reference2Ideal.Entry

open Cert.Reference2Ideal Cert.Reference2Ideal.Gen Cert.Stream

/-- The normalised rows, as the reference composes them. -/
def rows (X0 : FVec Ideal S16640x4096 .bf16) (X1 : FVec Ideal S16640x128 .f32) : FVec Ideal S16640x4096 .f32 :=
  mulf (extf .f32 X0 bitsLt_bf16_f32) (broadcastInDim S16640x4096 ![0, 1] bcast_S16640x1_S16640x4096_0_1 (Host.rsqrt (addf (Host.divf
    (broadcastInDim S16640x1 ![0] bcast_S16640_S16640x1_0 (Host.reduceAdd X1 (constant S_ .f32 0x00000000#32) reducesTo_S16640x128_S16640_d1 h_S_))
    (broadcastInDim S16640x1 ![] bcast_S_S16640x1 (constant S_ .f32 0x45800000#32))) (broadcastInDim S16640x1 ![] bcast_S_S16640x1 (constant S_ .f32 0x358637BD#32)))))

theorem rows_read (X0 : FVec Ideal S16640x4096 .bf16) (X1 : FVec Ideal S16640x128 .f32) (r : Fin 16640) (k : Fin 4096) :
    rows X0 X1 (ix2 r k) = X0 (ix2 r k) * rowScale fun l => X1 (ix2 r l) := by
  unfold rowScale
  pointwise [rows]

/-- Their product with the weight, rectified. -/
def relu (X0 : FVec Ideal S16640x4096 .bf16) (X1 : FVec Ideal S16640x128 .f32) (X2 : FVec Ideal S4096x16384 .bf16) : FVec Ideal S16640x16384 .f32 :=
  maximumf (Host.dotGeneral dot_S16640x4096_S4096x16384_S16640x16384_1_0_0_1_n_n none (rows X0 X1) (extf .f32 X2 bitsLt_bf16_f32))
    (broadcastInDim S16640x16384 ![] bcast_S_S16640x16384 (constant S_ .f32 0x00000000#32))

theorem up_read (X0 : FVec Ideal S16640x4096 .bf16) (X1 : FVec Ideal S16640x128 .f32) (X2 : FVec Ideal S4096x16384 .bf16) (r : Fin 16640) (j : Fin 16384) :
    truncf (F := Ideal) .bf16 (mulf (relu X0 X1 X2) (relu X0 X1 X2)) bitsLt_bf16_f32 (ix2 r j) = Cert.Kernel2Ideal.Up.up X0 X1 X2 r j := by
  pointwise [relu]
  simp only [rows_read]
  rfl

theorem cast_read (X3 : FVec Ideal S4x4096x4096 .f32) (r : Fin 4096) (j : Fin 4096) :
    truncf (F := Ideal) .bf16 (shapeCast S4096x4096 (extractStridedSlice S1x4096x4096 ![1, 0, 0] X3 slices_S4x4096x4096_S1x4096x4096_1_0_0) shapeCasts_S1x4096x4096_S4096x4096)
      bitsLt_bf16_f32 (ix2 r j) = X3 (ix3 1 r j) := by
  pointwise

/-- The reference terminates, keeps its arguments and owns no semaphore, whatever the memory. -/
theorem frame : Cert.quiescent_Reference2Ideal := fun m g _ => (θ_run Cert.Reference2Ideal.defs _ _).mono
  (fun r h => And.intro (fun c => (h c).2.2) (Idealize.ShloMosaic.sem_eq_zero_of_no_sems (by decide) r.2)) (Cert.Reference2Ideal.Value.run m g)

/-- From memories that agree on the arguments, with no negative partial sum, the kernel's activations and rounded weight are the reference's. -/
theorem algebraic : Cert.algebraic_Kernel2Ideal_Reference2Ideal_pre_up_sums_nonneg (hPre_up_sums_nonneg := Cert.Pre_up_sums_nonneg.facts) := by
  intro m g m' g' hpre hagree
  refine ⟨fun c => (Cert.Kernel2Ideal.Gen.dats m 0 c).arrAt 4 Cert.Kernel2Ideal.cfg0.N, fun c => (Cert.Kernel2Ideal.Gen.dats m 0 c).arrAt 5 Cert.Kernel2Ideal.cfg0.N,
    Cert.Kernel2Ideal.Value.run_blocks m g, ?_⟩
  refine (θ_run Cert.Reference2Ideal.defs _ _).mono (fun r h c => ?_) (Cert.Reference2Ideal.Value.run m' g')
  obtain ⟨a0, a1, a2, a3⟩ := hagree c
  obtain ⟨h0, h1, hargs⟩ := h c
  have H := Cert.Pre_up_sums_nonneg.nonneg _ _ _ _ (hpre c)
  refine ⟨h0.trans ?_, h1.trans ?_, hargs⟩
  · rw [a0, a1, a2]
    refine Eq.trans ?_ (Cert.Kernel2Ideal.Up.final4 m c H).symm
    funext i
    obtain ⟨r, j, rfl⟩ : ∃ (r : Fin 16640) (j : Fin 16384), i = ix2 r j := ⟨i 0, i 1, eq_ix2 i⟩
    exact up_read _ _ _ r j
  · rw [a3]
    refine Eq.trans ?_ (Cert.Kernel2Ideal.Up.final5 m c).symm
    funext i
    obtain ⟨r, j, rfl⟩ : ∃ (r : Fin 4096) (j : Fin 4096), i = ix2 r j := ⟨i 0, i 1, eq_ix2 i⟩
    exact cast_read _ r j

end Cert.Reference2Ideal.Entry

end
-- ==== Proof.Down.lean ====
/- The down projection's call: what its three results hold after the run, entry by entry. -/
module

public import proofs.«01_k».proof.Proof.Gen.Kernel3Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel3Ideal.Down

open Cert.Kernel3Ideal Cert.Kernel3Ideal.Gen

variable (m : (ℓ : Loc nD τ sig) → Buf (Elt Ideal) ℓ)

/-- Which block each window stands at, at every point of the grid. -/
theorem idx : ∀ t : Fin cfg0.N, win0_0.index t = ![t.val / 32, t.val % 8] ∧ win0_1.index t = ![0, t.val % 8, t.val / 8 % 4]
    ∧ win0_2.index t = ![t.val / 32, t.val / 8 % 4] ∧ win0_3.index t = ![0, t.val / 8 % 4] ∧ win0_4.index t = ![t.val / 32, t.val / 8 % 4]
    ∧ win0_5.index t = ![t.val / 32, t.val / 8 % 4] ∧ win0_6.index t = ![t.val / 32, 0] :=
  (by decide +kernel : ∀ t : Fin grid0.N, _)

theorem lt_N (t : Fin cfg0.N) : t.val < 416 := t.isLt.trans_eq N_0

theorem row_lt (n : ℕ) (hn : n < cfg0.N) (r : Fin 1280) : 1280 * (n / 32) + r.val < 16640 := by
  have : n < 416 := lt_N ⟨n, hn⟩
  omega

theorem iblk0_read (c : Dev nD) (t : Fin cfg0.N) (r : Fin 1280) (k : Fin 2048) :
    iblk m c 0 t (ix2 r k) = m ((c : Thread nD τ).loc main_arg0) (ix2 ⟨1280 * (t.val / 32) + r.val, row_lt _ t.isLt r⟩ ⟨2048 * (t.val % 8) + k.val, by omega⟩) := by
  have := lt_N t
  blk_ext [iblk, V_main_arg0, idx t]

theorem V_main_v0 (c : Dev nD) (k : Fin 16384) (j : Fin 4096) :
    (show FVec Ideal S1x16384x4096 .bf16 from V m c main_v0) (ix3 0 k j) = m ((c : Thread nD τ).loc main_arg1) (ix2 k j) := by
  dsimp only [V, hostOps0]
  after_results
  pointwise

theorem V_main_v1 (c : Dev nD) (j : Fin 4096) :
    (show FVec Ideal S1x4096 .f32 from V m c main_v1) (ix2 0 j) = m ((c : Thread nD τ).loc main_arg3) (ix1 j) := by
  dsimp only [V, hostOps0]
  after_results
  pointwise

theorem iblk1_read (c : Dev nD) (t : Fin cfg0.N) (k : Fin 2048) (j : Fin 1024) :
    iblk m c 1 t (ix3 0 k j) = m ((c : Thread nD τ).loc main_arg1) (ix2 ⟨2048 * (t.val % 8) + k.val, by omega⟩ ⟨1024 * (t.val / 8 % 4) + j.val, by omega⟩) := by
  have := lt_N t
  refine Eq.trans ?_ (V_main_v0 m c _ _)
  blk_ext [iblk, idx t]

theorem iblk2_read (c : Dev nD) (t : Fin cfg0.N) (r : Fin 1280) (j : Fin 1024) :
    iblk m c 2 t (ix2 r j) = m ((c : Thread nD τ).loc main_arg2) (ix2 ⟨1280 * (t.val / 32) + r.val, row_lt _ t.isLt r⟩ ⟨1024 * (t.val / 8 % 4) + j.val, by omega⟩) := by
  have := lt_N t
  blk_ext [iblk, V_main_arg2, idx t]

theorem iblk3_read (c : Dev nD) (t : Fin cfg0.N) (j : Fin 1024) :
    iblk m c 3 t (ix2 0 j) = m ((c : Thread nD τ).loc main_arg3) (ix1 ⟨1024 * (t.val / 8 % 4) + j.val, by omega⟩) := by
  have := lt_N t
  refine Eq.trans ?_ (V_main_v1 m c _)
  blk_ext [iblk, idx t]

/-- The accumulator with one more block of the contraction. -/
theorem step_read (a : FVec Ideal S1280x1024 .f32) (u : FVec Ideal S1280x2048 .bf16) (w : FVec Ideal S1x2048x1024 .bf16) (r : Fin 1280) (j : Fin 1024) :
    k0_pay3 (F := Ideal) a u w (ix2 r j) = a (ix2 r j) + ∑ k, u (ix2 r k) * w (ix3 0 k j) := by
  pointwise [k0_pay3]

theorem first_eq (a : FVec Ideal S1280x1024 .f32) (u : FVec Ideal S1280x2048 .bf16) (w : FVec Ideal S1x2048x1024 .bf16) (r : Fin 1280) (j : Fin 1024) :
    k0_pay1 (F := Ideal) a u w (ix2 r j) = a (ix2 r j) + ∑ k, u (ix2 r k) * w (ix3 0 k j) := by
  pointwise [k0_pay1]

theorem middle_eq (a : FVec Ideal S1280x1024 .f32) (u : FVec Ideal S1280x2048 .bf16) (w : FVec Ideal S1x2048x1024 .bf16) (r : Fin 1280) (j : Fin 1024) :
    k0_pay2 (F := Ideal) a u w (ix2 r j) = a (ix2 r j) + ∑ k, u (ix2 r k) * w (ix3 0 k j) := by
  pointwise [k0_pay2]

/-- The new row times the gain. -/
theorem gained_read (a : FVec Ideal S1280x1024 .f32) (u : FVec Ideal S1280x2048 .bf16) (w : FVec Ideal S1x2048x1024 .bf16) (g : FVec Ideal S1x1024 .f32) (r : Fin 1280) (j : Fin 1024) :
    k0_pay4 (F := Ideal) a u w g (ix2 r j) = k0_pay3 (F := Ideal) a u w (ix2 r j) * g (ix2 0 j) := by
  pointwise [k0_pay4]

/-- The squares of the new rows, folded over the block's 8 groups of 128 columns. -/
theorem fold_read (a : FVec Ideal S1280x1024 .f32) (u : FVec Ideal S1280x2048 .bf16) (w : FVec Ideal S1x2048x1024 .bf16) (r : Fin 1280) (l : Fin 128) :
    k0_pay5 (F := Ideal) a u w (ix2 r l)
      = ∑ g : Fin 8, k0_pay3 (F := Ideal) a u w (ix2 r ⟨128 * g.val + l.val, by omega⟩) * k0_pay3 (F := Ideal) a u w (ix2 r ⟨128 * g.val + l.val, by omega⟩) := by
  rw [Fin.sum_univ_eight]
  pointwise [k0_pay5]

theorem fold_next (a : FVec Ideal S1280x1024 .f32) (u : FVec Ideal S1280x2048 .bf16) (w : FVec Ideal S1x2048x1024 .bf16) (s : FVec Ideal S1280x128 .f32) (r : Fin 1280) (l : Fin 128) :
    k0_pay6 (F := Ideal) a u w s (ix2 r l) = s (ix2 r l) + k0_pay5 (F := Ideal) a u w (ix2 r l) := by
  pointwise [k0_pay6]

section

variable (X0 : FVec Ideal S16640x16384 .bf16) (X1 : FVec Ideal S16384x4096 .bf16) (X2 : FVec Ideal S16640x4096 .f32)

/-- One block of the contraction at a row and a column of the whole arrays. -/
def partAt (r : Fin 16640) (j : Fin 4096) (s : ℕ) : EReal :=
  if h : s < 8 then ∑ k : Fin 2048, X0 (ix2 r ⟨2048 * s + k.val, by omega⟩) * X1 (ix2 ⟨2048 * s + k.val, by omega⟩ j) else 0

/-- The residual with the first `n` blocks of the contraction added. -/
def accAt (r : Fin 16640) (j : Fin 4096) (n : ℕ) : EReal := X2 (ix2 r j) + ∑ s ∈ Finset.range n, partAt X0 X1 r j s

/-- The new residual: the old one plus the down projection. -/
def down (r : Fin 16640) (j : Fin 4096) : EReal := X2 (ix2 r j) + ∑ k : Fin 16384, X0 (ix2 r k) * X1 (ix2 k j)

theorem accAt_succ (r : Fin 16640) (j : Fin 4096) (n : ℕ) : accAt X0 X1 X2 r j n + partAt X0 X1 r j n = accAt X0 X1 X2 r j (n + 1) := by
  unfold accAt
  rw [Finset.sum_range_succ, add_assoc]

theorem accAt_zero (r : Fin 16640) (j : Fin 4096) : X2 (ix2 r j) + partAt X0 X1 r j 0 = accAt X0 X1 X2 r j 1 := by
  unfold accAt
  rw [Finset.sum_range_one]

/-- All eight blocks make the whole contraction. -/
theorem accAt_eight (r : Fin 16640) (j : Fin 4096) : accAt X0 X1 X2 r j 8 = down X0 X1 X2 r j := by
  unfold accAt down
  refine congrArg (X2 (ix2 r j) + ·) ?_
  rw [Finset.sum_range]
  refine Eq.trans ?_ (Fin.sum_univ_tiles 8 2048 rfl fun k : Fin 16384 => X0 (ix2 r k) * X1 (ix2 k j)).symm
  refine Finset.sum_congr rfl fun s _ => ?_
  unfold partAt
  rw [dif_pos s.isLt]
  refine Finset.sum_congr rfl fun k _ => ?_
  have e : (⟨2048 * s.val + k.val, by omega⟩ : Fin 16384) = ⟨s.val * 2048 + k.val, by omega⟩ := Fin.ext (by dsimp only; omega)
  rw [e]

/-- The squares of column block `s`'s new rows, folded over its 8 groups of 128 columns. -/
def foldAt (r : Fin 16640) (l : Fin 128) (s : ℕ) : EReal :=
  if h : s < 4 then ∑ g : Fin 8, down X0 X1 X2 r ⟨1024 * s + (128 * g.val + l.val), by omega⟩ * down X0 X1 X2 r ⟨1024 * s + (128 * g.val + l.val), by omega⟩ else 0

/-- The partial sums of squares: over the 32 groups of 128 columns. -/
def squares (r : Fin 16640) (l : Fin 128) : EReal :=
  ∑ g : Fin 32, down X0 X1 X2 r ⟨g.val * 128 + l.val, by omega⟩ * down X0 X1 X2 r ⟨g.val * 128 + l.val, by omega⟩

theorem fold_four (r : Fin 16640) (l : Fin 128) : ∑ s ∈ Finset.range 4, foldAt X0 X1 X2 r l s = squares X0 X1 X2 r l := by
  rw [Finset.sum_range]
  refine Eq.trans ?_ (Fin.sum_univ_tiles 4 8 rfl fun g : Fin 32 =>
    down X0 X1 X2 r ⟨g.val * 128 + l.val, by omega⟩ * down X0 X1 X2 r ⟨g.val * 128 + l.val, by omega⟩).symm
  refine Finset.sum_congr rfl fun s _ => ?_
  unfold foldAt
  rw [dif_pos s.isLt]
  refine Finset.sum_congr rfl fun g _ => ?_
  have e : (⟨1024 * s.val + (128 * g.val + l.val), by omega⟩ : Fin 4096) = ⟨(s.val * 8 + g.val) * 128 + l.val, by omega⟩ := Fin.ext (by dsimp only; omega)
  rw [e]

end

/-- What the product of the two blocks of point `t` is in the whole arrays. -/
theorem block_part (c : Dev nD) (t : Fin cfg0.N) (r : Fin 1280) (j : Fin 1024) (u : FVec Ideal S1280x2048 .bf16) (w : FVec Ideal S1x2048x1024 .bf16)
    (hu : u = iblk m c 0 t) (hw : w = iblk m c 1 t) :
    ∑ k : Fin 2048, u (ix2 r k) * w (ix3 0 k j)
      = partAt (m ((c : Thread nD τ).loc main_arg0)) (m ((c : Thread nD τ).loc main_arg1)) ⟨1280 * (t.val / 32) + r.val, row_lt _ t.isLt r⟩
          ⟨1024 * (t.val / 8 % 4) + j.val, by omega⟩ (t.val % 8) := by
  subst hu hw
  unfold partAt
  rw [dif_pos (by omega)]
  exact Finset.sum_congr rfl fun k _ => by rw [iblk0_read, iblk1_read]

/-- The accumulator's value after point `n`, for the row and column of the whole arrays that its entry stands for. -/
def accOf (c : Dev nD) (n : ℕ) (hn : n < cfg0.N) (r : Fin 1280) (j : Fin 1024) (q : ℕ) : EReal :=
  accAt (m ((c : Thread nD τ).loc main_arg0)) (m ((c : Thread nD τ).loc main_arg1)) (m ((c : Thread nD τ).loc main_arg2))
    ⟨1280 * (n / 32) + r.val, row_lt n hn r⟩ ⟨1024 * (n / 8 % 4) + j.val, by omega⟩ q

theorem accOf_congr (c : Dev nD) {n n' : ℕ} (hn : n < cfg0.N) (hn' : n' < cfg0.N) (h : n / 8 = n' / 8) (r : Fin 1280) (j : Fin 1024) (q : ℕ) :
    accOf m c n hn r j q = accOf m c n' hn' r j q := by
  unfold accOf
  have e1 : n / 32 = n' / 32 := by omega
  simp only [h, e1]

/-- The carried accumulator after a point that does not finish its block. -/
theorem acc_after (c : Dev nD) : ∀ (n : ℕ) (hn : n < cfg0.N), n % 8 ≤ 6 → ∀ (r : Fin 1280) (j : Fin 1024),
    (outsAt0 m c n hn).2.2.2 (ix2 r j) = accOf m c n hn r j (n % 8 + 1) := by
  have first : ∀ (n : ℕ) (hn : n < cfg0.N), n % 8 = 0 → ∀ (r : Fin 1280) (j : Fin 1024),
      (outsAt0 m c n hn).2.2.2 (ix2 r j) = accOf m c n hn r j (n % 8 + 1) := fun n hn h0 r j => by
    refine (congrFun (congrArg (fun p => p.2.2.2) (outsAt0_A m c ⟨n, hn⟩ h0 (by dsimp only; omega) (by dsimp only; omega))) _).trans ?_
    dsimp only
    frame_out
    rw [first_eq, block_part m c ⟨n, hn⟩ r j _ _ rfl rfl, iblk2_read]
    dsimp only
    rw [h0]
    exact accAt_zero _ _ _ _ _
  intro n
  induction n with
  | zero => exact fun hn _ => first 0 hn rfl
  | succ n ih =>
    intro hn h6 r j
    by_cases h0 : (n + 1) % 8 = 0
    · exact first _ hn h0 r j
    · refine (congrFun (congrArg (fun p => p.2.2.2) (outsAt0_B m c ⟨n + 1, hn⟩ h0 (by dsimp only; omega) (by dsimp only; omega))) _).trans ?_
      dsimp only
      frame_out
      rw [middle_eq, block_part m c ⟨n + 1, hn⟩ r j _ _ rfl rfl]
      have hn' : n < cfg0.N := Nat.lt_of_succ_lt hn
      refine (congrArg (fun x : EReal => x + _) ((congrFun ((Memref.isWhole_whole cc0_scratch0).read_unread _) _).trans ((ih hn' (by omega) r j).trans
        (accOf_congr m c hn' hn (by omega) r j _)))).trans ?_
      have e : n % 8 + 1 = (n + 1) % 8 := by omega
      rw [e]
      exact accAt_succ _ _ _ _ _ _

/-- The accumulator with the last block added, at a point that finishes its block: the new residual. -/
theorem new_read (c : Dev nD) (t : Fin cfg0.N) (h7 : t.val % 8 = 7) (r : Fin 1280) (j : Fin 1024) (a : FVec Ideal S1280x1024 .f32)
    (ha : a = (outsAt0 m c (t.val - 1) (Nat.lt_of_le_of_lt (Nat.sub_le _ _) t.isLt)).2.2.2) :
    k0_pay3 (F := Ideal) a (iblk m c 0 t) (iblk m c 1 t) (ix2 r j)
      = down (m ((c : Thread nD τ).loc main_arg0)) (m ((c : Thread nD τ).loc main_arg1)) (m ((c : Thread nD τ).loc main_arg2))
          ⟨1280 * (t.val / 32) + r.val, row_lt _ t.isLt r⟩ ⟨1024 * (t.val / 8 % 4) + j.val, by omega⟩ := by
  have hN := lt_N t
  rw [step_read, block_part m c t r j _ _ rfl rfl, ha, acc_after m c _ _ (by omega), accOf_congr m c _ t.isLt (by omega), ← accAt_eight, h7,
    show (t.val - 1) % 8 + 1 = 7 by omega]
  exact accAt_succ _ _ _ _ _ _

/-- The same fold, at a point that finishes its block. -/
theorem new_fold (c : Dev nD) (t : Fin cfg0.N) (h7 : t.val % 8 = 7) (r : Fin 1280) (l : Fin 128) (a : FVec Ideal S1280x1024 .f32)
    (ha : a = (outsAt0 m c (t.val - 1) (Nat.lt_of_le_of_lt (Nat.sub_le _ _) t.isLt)).2.2.2) :
    k0_pay5 (F := Ideal) a (iblk m c 0 t) (iblk m c 1 t) (ix2 r l)
      = foldAt (m ((c : Thread nD τ).loc main_arg0)) (m ((c : Thread nD τ).loc main_arg1)) (m ((c : Thread nD τ).loc main_arg2))
          ⟨1280 * (t.val / 32) + r.val, row_lt _ t.isLt r⟩ l (t.val / 8 % 4) := by
  unfold foldAt
  rw [fold_read, dif_pos (by omega)]
  exact Finset.sum_congr rfl fun g _ => by rw [new_read m c t h7 r _ a ha]

/-- The first result's block after a point that finishes it. -/
theorem down_after (c : Dev nD) (t : Fin cfg0.N) (h7 : t.val % 8 = 7) (r : Fin 1280) (j : Fin 1024) :
    (outsAt0 m c t.val t.isLt).1 (ix2 r j)
      = down (m ((c : Thread nD τ).loc main_arg0)) (m ((c : Thread nD τ).loc main_arg1)) (m ((c : Thread nD τ).loc main_arg2))
          ⟨1280 * (t.val / 32) + r.val, row_lt _ t.isLt r⟩ ⟨1024 * (t.val / 8 % 4) + j.val, by omega⟩ := by
  by_cases h3 : t.val / 8 % 4 = 0
  · refine (congrFun (congrArg (fun p => p.1) (outsAt0_C m c t (by omega) (by omega) h7 h3 (by omega))) _).trans ?_
    dsimp only
    frame_out
    exact new_read m c t h7 r j _ ((Memref.isWhole_whole cc0_scratch0).read_unread _)
  · refine (congrFun (congrArg (fun p => p.1) (outsAt0_D m c t (by omega) (by omega) h7 h3 (by omega))) _).trans ?_
    dsimp only
    frame_out
    exact new_read m c t h7 r j _ ((Memref.isWhole_whole cc0_scratch0).read_unread _)

/-- The second result's block after a point that finishes it. -/
theorem gained_after (c : Dev nD) (t : Fin cfg0.N) (h7 : t.val % 8 = 7) (r : Fin 1280) (j : Fin 1024) :
    (outsAt0 m c t.val t.isLt).2.1 (ix2 r j)
      = (down (m ((c : Thread nD τ).loc main_arg0)) (m ((c : Thread nD τ).loc main_arg1)) (m ((c : Thread nD τ).loc main_arg2))
          ⟨1280 * (t.val / 32) + r.val, row_lt _ t.isLt r⟩ ⟨1024 * (t.val / 8 % 4) + j.val, by omega⟩
        * (m ((c : Thread nD τ).loc main_arg3) : FVec Ideal S4096 .f32) (ix1 ⟨1024 * (t.val / 8 % 4) + j.val, by omega⟩) : EReal) := by
  by_cases h3 : t.val / 8 % 4 = 0
  · refine (congrFun (congrArg (fun p => p.2.1) (outsAt0_C m c t (by omega) (by omega) h7 h3 (by omega))) _).trans ?_
    dsimp only
    frame_out
    rw [gained_read, iblk3_read]
    exact congrArg (fun x : EReal => x * _) (new_read m c t h7 r j _ ((Memref.isWhole_whole cc0_scratch0).read_unread _))
  · refine (congrFun (congrArg (fun p => p.2.1) (outsAt0_D m c t (by omega) (by omega) h7 h3 (by omega))) _).trans ?_
    dsimp only
    frame_out
    rw [gained_read, iblk3_read]
    exact congrArg (fun x : EReal => x * _) (new_read m c t h7 r j _ ((Memref.isWhole_whole cc0_scratch0).read_unread _))

/-- The partial sums over the first `q` column blocks of the row block of point `n`. -/
def foldsOf (c : Dev nD) (n : ℕ) (hn : n < cfg0.N) (r : Fin 1280) (l : Fin 128) (q : ℕ) : EReal :=
  ∑ s ∈ Finset.range q, foldAt (m ((c : Thread nD τ).loc main_arg0)) (m ((c : Thread nD τ).loc main_arg1)) (m ((c : Thread nD τ).loc main_arg2))
    ⟨1280 * (n / 32) + r.val, row_lt n hn r⟩ l s

theorem foldsOf_congr (c : Dev nD) {n n' : ℕ} (hn : n < cfg0.N) (hn' : n' < cfg0.N) (h : n / 32 = n' / 32) (r : Fin 1280) (l : Fin 128) (q : ℕ) :
    foldsOf m c n hn r l q = foldsOf m c n' hn' r l q := by
  unfold foldsOf
  simp only [h]

/-- The third result's block after point `n`, once a column block is finished. -/
theorem folds_after (c : Dev nD) : ∀ (n : ℕ) (hn : n < cfg0.N), 1 ≤ (n % 32 + 1) / 8 → ∀ (r : Fin 1280) (l : Fin 128),
    (outsAt0 m c n hn).2.2.1 (ix2 r l) = foldsOf m c n hn r l ((n % 32 + 1) / 8) := by
  intro n
  induction n with
  | zero => exact fun hn h => absurd h (by decide)
  | succ n ih =>
    intro hn h1 r l
    have hn' : n < cfg0.N := Nat.lt_of_succ_lt hn
    by_cases h7 : (n + 1) % 8 = 7
    · by_cases h3 : (n + 1) / 8 % 4 = 0
      · refine (congrFun (congrArg (fun p => p.2.2.1) (outsAt0_C m c ⟨n + 1, hn⟩ (by dsimp only; omega) (by dsimp only; omega) h7 h3 (by dsimp only; omega))) _).trans ?_
        dsimp only
        frame_out
        refine (new_fold m c ⟨n + 1, hn⟩ h7 r l _ ((Memref.isWhole_whole cc0_scratch0).read_unread _)).trans ?_
        dsimp only
        rw [h3, show ((n + 1) % 32 + 1) / 8 = 1 by omega]
        unfold foldsOf
        rw [Finset.sum_range_one]
      · refine (congrFun (congrArg (fun p => p.2.2.1) (outsAt0_D m c ⟨n + 1, hn⟩ (by dsimp only; omega) (by dsimp only; omega) h7 h3 (by dsimp only; omega))) _).trans ?_
        dsimp only
        frame_out
        rw [fold_next]
        refine (congrArg₂ (fun x y : EReal => x + y) ((ih hn' (by omega) r l).trans (foldsOf_congr m c hn' hn (by omega) r l _))
          (new_fold m c ⟨n + 1, hn⟩ h7 r l _ ((Memref.isWhole_whole cc0_scratch0).read_unread _))).trans ?_
        dsimp only
        rw [show ((n + 1) % 32 + 1) / 8 = (n + 1) / 8 % 4 + 1 by omega, show (n % 32 + 1) / 8 = (n + 1) / 8 % 4 by omega]
        unfold foldsOf
        rw [Finset.sum_range_succ]
    · have keep : (outsAt0 m c (n + 1) hn).2.2.1 = (outsAt0 m c n hn').2.2.1 := by
        by_cases h0 : (n + 1) % 8 = 0
        · exact congrArg (fun p => p.2.2.1) (outsAt0_A m c ⟨n + 1, hn⟩ h0 (by dsimp only; omega) h7)
        · exact congrArg (fun p => p.2.2.1) (outsAt0_B m c ⟨n + 1, hn⟩ h0 (by dsimp only; omega) h7)
      rw [keep, ih hn' (by omega), foldsOf_congr m c hn' hn (by omega), show (n % 32 + 1) / 8 = ((n + 1) % 32 + 1) / 8 by omega]

/-- The kernel's first result after the run. -/
theorem final4 (c : Dev nD) : (dats m 0 c).arrAt 4 (cfgs 0).N = (fun i : S16640x4096.Idx =>
    down (m ((c : Thread nD τ).loc main_arg0)) (m ((c : Thread nD τ).loc main_arg1)) (m ((c : Thread nD τ).loc main_arg2)) (i 0) (i 1)) := by
  refine (dats m 0 c).arrAt_eq_of_covers 4 _ (by decide +kernel) fun t ht y => ?_
  blk_simp
  rw [after0_4]
  obtain ⟨r, j, rfl⟩ : ∃ (r : Fin 1280) (j : Fin 1024), y = ix2 r j := ⟨y 0, y 1, eq_ix2 y⟩
  refine (down_after m c t ((flush0_4 t).mp ht) r j).trans ?_
  have hN := lt_N t
  have e : ((win0_4.blk t).view.emb (ix2 r j) : S16640x4096.Idx) = ix2 ⟨1280 * (t.val / 32) + r.val, by omega⟩ ⟨1024 * (t.val / 8 % 4) + j.val, by omega⟩ := by
    blk_ext [idx t]
  rw [e]
  rfl

/-- The kernel's second result after the run. -/
theorem final5 (c : Dev nD) : (dats m 0 c).arrAt 5 (cfgs 0).N = (fun i : S16640x4096.Idx =>
    (down (m ((c : Thread nD τ).loc main_arg0)) (m ((c : Thread nD τ).loc main_arg1)) (m ((c : Thread nD τ).loc main_arg2)) (i 0) (i 1)
      * (m ((c : Thread nD τ).loc main_arg3) : FVec Ideal S4096 .f32) (ix1 (i 1)) : EReal)) := by
  refine (dats m 0 c).arrAt_eq_of_covers 5 _ (by decide +kernel) fun t ht y => ?_
  blk_simp
  rw [after0_5]
  obtain ⟨r, j, rfl⟩ : ∃ (r : Fin 1280) (j : Fin 1024), y = ix2 r j := ⟨y 0, y 1, eq_ix2 y⟩
  refine (gained_after m c t ((flush0_5 t).mp ht) r j).trans ?_
  have hN := lt_N t
  have e : ((win0_5.blk t).view.emb (ix2 r j) : S16640x4096.Idx) = ix2 ⟨1280 * (t.val / 32) + r.val, by omega⟩ ⟨1024 * (t.val / 8 % 4) + j.val, by omega⟩ := by
    blk_ext [idx t]
  rw [e]
  rfl

/-- The kernel's third result after the run. -/
theorem final6 (c : Dev nD) : (dats m 0 c).arrAt 6 (cfgs 0).N = (fun i : S16640x128.Idx =>
    squares (m ((c : Thread nD τ).loc main_arg0)) (m ((c : Thread nD τ).loc main_arg1)) (m ((c : Thread nD τ).loc main_arg2)) (i 0) (i 1)) := by
  refine (dats m 0 c).arrAt_eq_of_covers 6 _ (by decide +kernel) fun t ht y => ?_
  blk_simp
  rw [after0_6]
  obtain ⟨r, l, rfl⟩ : ∃ (r : Fin 1280) (l : Fin 128), y = ix2 r l := ⟨y 0, y 1, eq_ix2 y⟩
  have h31 := (flush0_6 t).mp ht
  refine (folds_after m c t.val t.isLt (by omega) r l).trans ?_
  have hN := lt_N t
  have e : ((win0_6.blk t).view.emb (ix2 r l) : S16640x128.Idx) = ix2 ⟨1280 * (t.val / 32) + r.val, by omega⟩ l := by
    blk_ext [idx t]
  rw [e, show (t.val % 32 + 1) / 8 = 4 by omega]
  exact fold_four _ _ _ _ _

end Cert.Kernel3Ideal.Down

end
-- ==== Proof.DownRef.lean ====
/- The down projection: the reference's three results, and their equality with the kernel's. -/
module

public import proofs.«01_k».proof.Defs
public import proofs.«01_k».proof.Proof.Down
public import proofs.«01_k».proof.Proof.Gen.Reference3Ideal.Run
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Reference3Ideal.Entry

open Cert.Reference3Ideal Cert.Reference3Ideal.Gen Cert.Kernel3Ideal.Down

variable (X0 : FVec Ideal S16640x16384 .bf16) (X1 : FVec Ideal S16384x4096 .bf16) (X2 : FVec Ideal S16640x4096 .f32) (X3 : FVec Ideal S4096 .f32)

/-- The new residual, as the reference composes it. -/
def residual : FVec Ideal S16640x4096 .f32 :=
  addf X2 (Host.dotGeneral dot_S16640x16384_S16384x4096_S16640x4096_1_0_0_1_n_n none (extf .f32 X0 bitsLt_bf16_f32) (extf .f32 X1 bitsLt_bf16_f32))

theorem residual_read (r : Fin 16640) (j : Fin 4096) : residual X0 X1 X2 (ix2 r j) = down X0 X1 X2 r j := by
  unfold down
  pointwise [residual]

theorem gained_read (r : Fin 16640) (j : Fin 4096) :
    truncf (F := Ideal) .bf16 (mulf (residual X0 X1 X2) (broadcastInDim S16640x4096 ![0, 1] bcast_S1x4096_S16640x4096_0_1
      (broadcastInDim S1x4096 ![1] bcast_S4096_S1x4096_1 X3))) bitsLt_bf16_f32 (ix2 r j) = down X0 X1 X2 r j * X3 (ix1 j) := by
  rw [← residual_read]
  pointwise

theorem squares_read (r : Fin 16640) (l : Fin 128) :
    Host.reduceAdd (F := Ideal) (shapeCast S16640x32x128 (mulf (residual X0 X1 X2) (residual X0 X1 X2)) shapeCasts_S16640x4096_S16640x32x128) (constant S_ .f32 0x00000000#32)
      reducesTo_S16640x32x128_S16640x128_d1 h_S_ (ix2 r l) = squares X0 X1 X2 r l := by
  unfold squares
  simp only [← residual_read]
  pointwise

/-- The reference terminates, keeps its arguments and owns no semaphore, whatever the memory. -/
theorem frame : Cert.quiescent_Reference3Ideal := fun m g _ => (θ_run Cert.Reference3Ideal.defs _ _).mono
  (fun r h => And.intro (fun c => (h c).2.2.2) (Idealize.ShloMosaic.sem_eq_zero_of_no_sems (by decide) r.2)) (Cert.Reference3Ideal.Value.run m g)

/-- From memories that agree on the arguments the kernel's three results are the reference's. -/
theorem algebraic : Cert.algebraic_Kernel3Ideal_Reference3Ideal := by
  intro m g m' g' _ hagree
  refine ⟨fun c => (Cert.Kernel3Ideal.Gen.dats m 0 c).arrAt 4 Cert.Kernel3Ideal.cfg0.N, fun c => (Cert.Kernel3Ideal.Gen.dats m 0 c).arrAt 5 Cert.Kernel3Ideal.cfg0.N,
    fun c => (Cert.Kernel3Ideal.Gen.dats m 0 c).arrAt 6 Cert.Kernel3Ideal.cfg0.N, Cert.Kernel3Ideal.Value.run_blocks m g, ?_⟩
  refine (θ_run Cert.Reference3Ideal.defs _ _).mono (fun r h c => ?_) (Cert.Reference3Ideal.Value.run m' g')
  obtain ⟨a0, a1, a2, a3⟩ := hagree c
  obtain ⟨h0, h1, h2, hargs⟩ := h c
  refine ⟨h0.trans ?_, h1.trans ?_, h2.trans ?_, hargs⟩
  · rw [a0, a1, a2]
    refine Eq.trans ?_ (Cert.Kernel3Ideal.Down.final4 m c).symm
    funext i
    obtain ⟨r, j, rfl⟩ : ∃ (r : Fin 16640) (j : Fin 4096), i = ix2 r j := ⟨i 0, i 1, eq_ix2 i⟩
    exact residual_read _ _ _ r j
  · rw [a0, a1, a2, a3]
    refine Eq.trans ?_ (Cert.Kernel3Ideal.Down.final5 m c).symm
    funext i
    obtain ⟨r, j, rfl⟩ : ∃ (r : Fin 16640) (j : Fin 4096), i = ix2 r j := ⟨i 0, i 1, eq_ix2 i⟩
    exact gained_read _ _ _ _ r j
  · rw [a0, a1, a2]
    refine Eq.trans ?_ (Cert.Kernel3Ideal.Down.final6 m c).symm
    funext i
    obtain ⟨r, l, rfl⟩ : ∃ (r : Fin 16640) (l : Fin 128), i = ix2 r l := ⟨i 0, i 1, eq_ix2 i⟩
    exact squares_read _ _ _ r l

end Cert.Reference3Ideal.Entry

end
-- ==== Proof.Norm.lean ====
/- The final norm's call: what its result holds after the run, entry by entry. -/
module

public import proofs.«01_k».proof.Proof.Gen.Kernel4Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel4Ideal.Norm

open Cert.Kernel4Ideal Cert.Kernel4Ideal.Gen

variable (m : (ℓ : Loc nD τ sig) → Buf (Elt Ideal) ℓ)

/-- Where each window stands at every point of the grid: the input by its first row, 16 rows into its sequence and 256 rows a point, the others by block. -/
theorem idx : ∀ t : Fin cfg0.N, win0_0.index t = ![t.val / 32 * 8320 + 16 + 256 * (t.val % 32), 0] ∧ win0_1.index t = ![0, 0]
    ∧ win0_2.index t = ![t.val / 32, t.val % 32, 0] :=
  (by decide +kernel : ∀ t : Fin grid0.N, _)

theorem lt_N (t : Fin cfg0.N) : t.val < 64 := t.isLt.trans_eq N_0

theorem iblk0_read (c : Dev nD) (t : Fin cfg0.N) (r : Fin 256) (k : Fin 4096) :
    iblk m c 0 t (ix2 r k) = m ((c : Thread nD τ).loc main_arg0) (ix2 ⟨t.val / 32 * 8320 + 16 + 256 * (t.val % 32) + r.val, by have := lt_N t; omega⟩ k) := by
  have := lt_N t
  blk_simp [iblk, V_main_arg0]
  refine congrArg _ (funext fun a => Fin.ext ?_)
  refine (win0_0.rect_emb_val_off t (ix2 r k) a).trans ?_
  show win0_0.index t a + (ix2 r k a).val = _
  rw [(idx t).1]
  fin_cases a
  · rfl
  · exact Nat.zero_add _

theorem V_main_v0 (c : Dev nD) (j : Fin 4096) :
    (show FVec Ideal S1x4096 .f32 from V m c main_v0) (ix2 0 j) = m ((c : Thread nD τ).loc main_arg1) (ix1 j) := by
  dsimp only [V, hostOps0]
  after_results
  pointwise

theorem iblk1_read (c : Dev nD) (t : Fin cfg0.N) (j : Fin 4096) :
    iblk m c 1 t (ix2 0 j) = m ((c : Thread nD τ).loc main_arg1) (ix1 j) := by
  refine Eq.trans ?_ (V_main_v0 m c j)
  blk_ext [iblk, idx t]

/-- One entry of a normalised row. -/
def normed (x : Fin 4096 → EReal) (j : Fin 4096) : EReal :=
  x j * Ideal.rsqrt (Ideal.div (∑ k, x k * x k) (Ideal.ofBits .f32 0x45800000#32) + Ideal.ofBits .f32 0x358637BD#32)

/-- A block's rows, normalised and weighted. -/
theorem block_read (x : FVec Ideal S256x4096 .f32) (w : FVec Ideal S1x4096 .f32) (r : Fin 256) (j : Fin 4096) :
    k0_pay1 (F := Ideal) x w (ix3 0 r j) = normed (fun k => x (ix2 r k)) j * w (ix2 0 j) := by
  unfold normed
  pointwise [k0_pay1]

/-- The final norm, entry by entry: token `t` of sequence `b` is the row 16 past it in the residual. -/
def normAt (X0 : FVec Ideal S16640x4096 .f32) (X1 : FVec Ideal S4096 .f32) (b : Fin 2) (t : Fin 8192) (j : Fin 4096) : EReal :=
  normed (fun k => X0 (ix2 ⟨b.val * 8320 + (16 + t.val), by omega⟩ k)) j * X1 (ix1 j)

/-- The kernel's result after the run. -/
theorem final2 (c : Dev nD) : (dats m 0 c).arrAt 2 (cfgs 0).N = (fun i : S2x8192x4096.Idx =>
    normAt (m ((c : Thread nD τ).loc main_arg0)) (m ((c : Thread nD τ).loc main_arg1)) (i 0) (i 1) (i 2)) := by
  refine (dats m 0 c).arrAt_eq_of_covers 2 _ (by decide +kernel) fun t _ y => ?_
  blk_simp
  rw [after0_2]
  obtain ⟨b, r, j, rfl⟩ : ∃ (b : Fin 1) (r : Fin 256) (j : Fin 4096), y = ix3 b r j := ⟨y 0, y 1, y 2, eq_ix3 y⟩
  obtain rfl : b = 0 := Subsingleton.elim _ _
  have hN := lt_N t
  frame_out
  rw [block_read]
  simp only [iblk0_read, iblk1_read]
  have e : ((win0_2.blk t).view.emb (ix3 0 r j) : S2x8192x4096.Idx) = ix3 ⟨t.val / 32, by omega⟩ ⟨256 * (t.val % 32) + r.val, by omega⟩ j := by
    blk_ext [idx t]
  rw [e]
  simp only [add_assoc]
  rfl

end Cert.Kernel4Ideal.Norm

end
-- ==== Proof.NormRef.lean ====
/- The final norm: the reference's result, and its equality with the kernel's. -/
module

public import proofs.«01_k».proof.Defs
public import proofs.«01_k».proof.Proof.Norm
public import proofs.«01_k».proof.Proof.Gen.Reference4Ideal.Run
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Reference4Ideal.Entry

open Cert.Reference4Ideal Cert.Reference4Ideal.Gen Cert.Kernel4Ideal.Norm

variable (X0 : FVec Ideal S16640x4096 .f32) (X1 : FVec Ideal S4096 .f32)

/-- The residual's rows of the tokens. -/
def tokens : FVec Ideal S2x8192x4096 .f32 :=
  extractStridedSlice S2x8192x4096 ![0, 16, 0] (shapeCast S2x8320x4096 X0 shapeCasts_S16640x4096_S2x8320x4096) slices_S2x8320x4096_S2x8192x4096_0_16_0

theorem tokens_read (b : Fin 2) (t : Fin 8192) (j : Fin 4096) : tokens X0 (ix3 b t j) = X0 (ix2 ⟨b.val * 8320 + (16 + t.val), by omega⟩ j) := by
  pointwise [tokens]

/-- The reference's result, as it composes it from the tokens' rows. -/
def result : FVec Ideal S2x8192x4096 .f32 :=
  mulf (mulf (tokens X0) (broadcastInDim S2x8192x4096 ![0, 1, 2] bcast_S2x8192x1_S2x8192x4096_0_1_2 (Host.rsqrt (addf (Host.divf
    (broadcastInDim S2x8192x1 ![0, 1] bcast_S2x8192_S2x8192x1_0_1 (Host.reduceAdd (mulf (tokens X0) (tokens X0)) (constant S_ .f32 0x00000000#32) reducesTo_S2x8192x4096_S2x8192_d2 h_S_))
    (broadcastInDim S2x8192x1 ![] bcast_S_S2x8192x1 (constant S_ .f32 0x45800000#32))) (broadcastInDim S2x8192x1 ![] bcast_S_S2x8192x1 (constant S_ .f32 0x358637BD#32))))))
    (broadcastInDim S2x8192x4096 ![0, 1, 2] bcast_S1x1x4096_S2x8192x4096_0_1_2 (broadcastInDim S1x1x4096 ![2] bcast_S4096_S1x1x4096_2 X1))

theorem result_read (b : Fin 2) (t : Fin 8192) (j : Fin 4096) : result X0 X1 (ix3 b t j) = normAt X0 X1 b t j := by
  unfold normAt normed
  simp only [← tokens_read]
  pointwise [result]

/-- The reference terminates, keeps its arguments and owns no semaphore, whatever the memory. -/
theorem frame : Cert.quiescent_Reference4Ideal := fun m g _ => (θ_run Cert.Reference4Ideal.defs _ _).mono
  (fun r h => And.intro (fun c => (h c).2) (Idealize.ShloMosaic.sem_eq_zero_of_no_sems (by decide) r.2)) (Cert.Reference4Ideal.Value.run m g)

/-- From memories that agree on the arguments the kernel's result is the reference's. -/
theorem algebraic : Cert.algebraic_Kernel4Ideal_Reference4Ideal := by
  intro m g m' g' _ hagree
  refine ⟨fun c => (Cert.Kernel4Ideal.Gen.dats m 0 c).arrAt 2 Cert.Kernel4Ideal.cfg0.N, Cert.Kernel4Ideal.Value.run_blocks m g, ?_⟩
  refine (θ_run Cert.Reference4Ideal.defs _ _).mono (fun r h c => ?_) (Cert.Reference4Ideal.Value.run m' g')
  obtain ⟨a0, a1⟩ := hagree c
  obtain ⟨h0, hargs⟩ := h c
  refine ⟨h0.trans ?_, hargs⟩
  rw [a0, a1]
  refine Eq.trans ?_ (Cert.Kernel4Ideal.Norm.final2 m c).symm
  funext i
  obtain ⟨b, t, j, rfl⟩ : ∃ (b : Fin 2) (t : Fin 8192) (j : Fin 4096), i = ix3 b t j := ⟨i 0, i 1, i 2, eq_ix3 i⟩
  exact result_read _ _ b t j

end Cert.Reference4Ideal.Entry

end
-- ==== Proof.InFrame.lean ====
/- The run of the input projection's call, over any float values: what the outputs and the carried scratch hold after every point, the
   pipeline's invariant, the body at every point, and from them the run of the whole program. In a row block's first point (case A) the
   body computes the row's scale into the scratch, in the others (case B) it reads it. The text follows the generated run of the program;
   the two readings of the accumulation get a larger bound on the work of checking them. -/
module

public import proofs.«01_k».proof.Proof.Gen.Kernel5Ideal.Frame.RunB
public import Idealize.ShloMosaic.Lib.Claim

@[expose] public section

set_option maxRecDepth 16384

noncomputable section

namespace Cert.Kernel5Ideal.InProj

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_4 (c : Dev nD) (i : grid0.Coords) (arg2 : Memref sig .tc .vmem S1280x4096 .bf16) (harg2 : arg2.IsWhole) (arg3 : Memref sig .tc .vmem S1024x4096 .bf16) (harg3 : arg3.IsWhole) (arg4 : Memref sig .tc .vmem S1280x128 .f32) (harg4 : arg4.IsWhole) (arg5 : Memref sig .tc .vmem S128x4096 .f32) (harg5 : arg5.IsWhole) (arg6 : Memref sig .tc .vmem S1280x1024 .bf16) (harg6 : arg6.IsWhole) (arg7 : Memref sig .tc .vmem S128x4096 .bf16) (harg7 : arg7.IsWhole) (arg8 : Memref sig .tc .vmem S1280x1 .f32) (harg8 : arg8.IsWhole) (hc0 : cond0_0 i)
    (x0 : Vec F S1280x4096 .bf16) (x1 : Vec F S1024x4096 .bf16) (x2 : Vec F S1280x128 .f32) (x3 : Vec F S128x4096 .f32) (y : S1280x1024.Idx) :
    ∃ pc ∈ (kernelRun0_A c i arg2 harg2 arg3 harg3 arg4 harg4 arg5 harg5 arg6 harg6 arg7 harg7 arg8 harg8 hc0 x0 x1 x2 x3).1, y ∈ pc.1.set :=
  View.cover_of_tiledL (kernelRun0_A c i arg2 harg2 arg3 harg3 arg4 harg4 arg5 harg5 arg6 harg6 arg7 harg7 arg8 harg8 hc0 x0 x1 x2 x3).1 S1280x1024.size (by sl_kernel_rfl) y

def out0_A_4 (c : Dev nD) (i : grid0.Coords) (arg2 : Memref sig .tc .vmem S1280x4096 .bf16) (harg2 : arg2.IsWhole) (arg3 : Memref sig .tc .vmem S1024x4096 .bf16) (harg3 : arg3.IsWhole) (arg4 : Memref sig .tc .vmem S1280x128 .f32) (harg4 : arg4.IsWhole) (arg5 : Memref sig .tc .vmem S128x4096 .f32) (harg5 : arg5.IsWhole) (arg6 : Memref sig .tc .vmem S1280x1024 .bf16) (harg6 : arg6.IsWhole) (arg7 : Memref sig .tc .vmem S128x4096 .bf16) (harg7 : arg7.IsWhole) (arg8 : Memref sig .tc .vmem S1280x1 .f32) (harg8 : arg8.IsWhole) (hc0 : cond0_0 i)
    (x0 : Vec F S1280x4096 .bf16) (x1 : Vec F S1024x4096 .bf16) (x2 : Vec F S1280x128 .f32) (x3 : Vec F S128x4096 .f32) : Vec F S1280x1024 .bf16 :=
  VO0_4.read (Elt F) (VO0_4.writes (Elt F) VO0_4.junk (kernelRun0_A c i arg2 harg2 arg3 harg3 arg4 harg4 arg5 harg5 arg6 harg6 arg7 harg7 arg8 harg8 hc0 x0 x1 x2 x3).1)

theorem cover0_A_5 (c : Dev nD) (i : grid0.Coords) (arg2 : Memref sig .tc .vmem S1280x4096 .bf16) (harg2 : arg2.IsWhole) (arg3 : Memref sig .tc .vmem S1024x4096 .bf16) (harg3 : arg3.IsWhole) (arg4 : Memref sig .tc .vmem S1280x128 .f32) (harg4 : arg4.IsWhole) (arg5 : Memref sig .tc .vmem S128x4096 .f32) (harg5 : arg5.IsWhole) (arg6 : Memref sig .tc .vmem S1280x1024 .bf16) (harg6 : arg6.IsWhole) (arg7 : Memref sig .tc .vmem S128x4096 .bf16) (harg7 : arg7.IsWhole) (arg8 : Memref sig .tc .vmem S1280x1 .f32) (harg8 : arg8.IsWhole) (hc0 : cond0_0 i)
    (x0 : Vec F S1280x4096 .bf16) (x1 : Vec F S1024x4096 .bf16) (x2 : Vec F S1280x128 .f32) (x3 : Vec F S128x4096 .f32) (y : S128x4096.Idx) :
    ∃ pc ∈ (kernelRun0_A c i arg2 harg2 arg3 harg3 arg4 harg4 arg5 harg5 arg6 harg6 arg7 harg7 arg8 harg8 hc0 x0 x1 x2 x3).2.1, y ∈ pc.1.set :=
  View.cover_of_tiledL (kernelRun0_A c i arg2 harg2 arg3 harg3 arg4 harg4 arg5 harg5 arg6 harg6 arg7 harg7 arg8 harg8 hc0 x0 x1 x2 x3).2.1 S128x4096.size (by sl_kernel_rfl) y

def out0_A_5 (c : Dev nD) (i : grid0.Coords) (arg2 : Memref sig .tc .vmem S1280x4096 .bf16) (harg2 : arg2.IsWhole) (arg3 : Memref sig .tc .vmem S1024x4096 .bf16) (harg3 : arg3.IsWhole) (arg4 : Memref sig .tc .vmem S1280x128 .f32) (harg4 : arg4.IsWhole) (arg5 : Memref sig .tc .vmem S128x4096 .f32) (harg5 : arg5.IsWhole) (arg6 : Memref sig .tc .vmem S1280x1024 .bf16) (harg6 : arg6.IsWhole) (arg7 : Memref sig .tc .vmem S128x4096 .bf16) (harg7 : arg7.IsWhole) (arg8 : Memref sig .tc .vmem S1280x1 .f32) (harg8 : arg8.IsWhole) (hc0 : cond0_0 i)
    (x0 : Vec F S1280x4096 .bf16) (x1 : Vec F S1024x4096 .bf16) (x2 : Vec F S1280x128 .f32) (x3 : Vec F S128x4096 .f32) : Vec F S128x4096 .bf16 :=
  VO0_5.read (Elt F) (VO0_5.writes (Elt F) VO0_5.junk (kernelRun0_A c i arg2 harg2 arg3 harg3 arg4 harg4 arg5 harg5 arg6 harg6 arg7 harg7 arg8 harg8 hc0 x0 x1 x2 x3).2.1)

theorem scover0_A_0 (c : Dev nD) (i : grid0.Coords) (arg2 : Memref sig .tc .vmem S1280x4096 .bf16) (harg2 : arg2.IsWhole) (arg3 : Memref sig .tc .vmem S1024x4096 .bf16) (harg3 : arg3.IsWhole) (arg4 : Memref sig .tc .vmem S1280x128 .f32) (harg4 : arg4.IsWhole) (arg5 : Memref sig .tc .vmem S128x4096 .f32) (harg5 : arg5.IsWhole) (arg6 : Memref sig .tc .vmem S1280x1024 .bf16) (harg6 : arg6.IsWhole) (arg7 : Memref sig .tc .vmem S128x4096 .bf16) (harg7 : arg7.IsWhole) (arg8 : Memref sig .tc .vmem S1280x1 .f32) (harg8 : arg8.IsWhole) (hc0 : cond0_0 i)
    (x0 : Vec F S1280x4096 .bf16) (x1 : Vec F S1024x4096 .bf16) (x2 : Vec F S1280x128 .f32) (x3 : Vec F S128x4096 .f32) (y : S1280x1.Idx) :
    ∃ pc ∈ (kernelRun0_A c i arg2 harg2 arg3 harg3 arg4 harg4 arg5 harg5 arg6 harg6 arg7 harg7 arg8 harg8 hc0 x0 x1 x2 x3).2.2.1, y ∈ pc.1.set :=
  View.cover_of_tiledL (kernelRun0_A c i arg2 harg2 arg3 harg3 arg4 harg4 arg5 harg5 arg6 harg6 arg7 harg7 arg8 harg8 hc0 x0 x1 x2 x3).2.2.1 S1280x1.size (by sl_kernel_rfl) y

def sout0_A_0 (c : Dev nD) (i : grid0.Coords) (arg2 : Memref sig .tc .vmem S1280x4096 .bf16) (harg2 : arg2.IsWhole) (arg3 : Memref sig .tc .vmem S1024x4096 .bf16) (harg3 : arg3.IsWhole) (arg4 : Memref sig .tc .vmem S1280x128 .f32) (harg4 : arg4.IsWhole) (arg5 : Memref sig .tc .vmem S128x4096 .f32) (harg5 : arg5.IsWhole) (arg6 : Memref sig .tc .vmem S1280x1024 .bf16) (harg6 : arg6.IsWhole) (arg7 : Memref sig .tc .vmem S128x4096 .bf16) (harg7 : arg7.IsWhole) (arg8 : Memref sig .tc .vmem S1280x1 .f32) (harg8 : arg8.IsWhole) (hc0 : cond0_0 i)
    (x0 : Vec F S1280x4096 .bf16) (x1 : Vec F S1024x4096 .bf16) (x2 : Vec F S1280x128 .f32) (x3 : Vec F S128x4096 .f32) : Vec F S1280x1 .f32 :=
  VS0_0.read (Elt F) (VS0_0.writes (Elt F) VS0_0.junk (kernelRun0_A c i arg2 harg2 arg3 harg3 arg4 harg4 arg5 harg5 arg6 harg6 arg7 harg7 arg8 harg8 hc0 x0 x1 x2 x3).2.2.1)

theorem cover0_B_4 (c : Dev nD) (i : grid0.Coords) (arg2 : Memref sig .tc .vmem S1280x4096 .bf16) (harg2 : arg2.IsWhole) (arg3 : Memref sig .tc .vmem S1024x4096 .bf16) (harg3 : arg3.IsWhole) (arg4 : Memref sig .tc .vmem S1280x128 .f32) (harg4 : arg4.IsWhole) (arg5 : Memref sig .tc .vmem S128x4096 .f32) (harg5 : arg5.IsWhole) (arg6 : Memref sig .tc .vmem S1280x1024 .bf16) (harg6 : arg6.IsWhole) (arg7 : Memref sig .tc .vmem S128x4096 .bf16) (harg7 : arg7.IsWhole) (arg8 : Memref sig .tc .vmem S1280x1 .f32) (harg8 : arg8.IsWhole) (hc0 : ¬cond0_0 i)
    (x0 : Vec F S1280x4096 .bf16) (x1 : Vec F S1024x4096 .bf16) (x2 : Vec F S1280x128 .f32) (x3 : Vec F S128x4096 .f32) (xs0 : Vec F S1280x1 .f32) (y : S1280x1024.Idx) :
    ∃ pc ∈ (kernelRun0_B c i arg2 harg2 arg3 harg3 arg4 harg4 arg5 harg5 arg6 harg6 arg7 harg7 arg8 harg8 hc0 x0 x1 x2 x3 xs0).1, y ∈ pc.1.set :=
  View.cover_of_tiledL (kernelRun0_B c i arg2 harg2 arg3 harg3 arg4 harg4 arg5 harg5 arg6 harg6 arg7 harg7 arg8 harg8 hc0 x0 x1 x2 x3 xs0).1 S1280x1024.size (by sl_kernel_rfl) y

def out0_B_4 (c : Dev nD) (i : grid0.Coords) (arg2 : Memref sig .tc .vmem S1280x4096 .bf16) (harg2 : arg2.IsWhole) (arg3 : Memref sig .tc .vmem S1024x4096 .bf16) (harg3 : arg3.IsWhole) (arg4 : Memref sig .tc .vmem S1280x128 .f32) (harg4 : arg4.IsWhole) (arg5 : Memref sig .tc .vmem S128x4096 .f32) (harg5 : arg5.IsWhole) (arg6 : Memref sig .tc .vmem S1280x1024 .bf16) (harg6 : arg6.IsWhole) (arg7 : Memref sig .tc .vmem S128x4096 .bf16) (harg7 : arg7.IsWhole) (arg8 : Memref sig .tc .vmem S1280x1 .f32) (harg8 : arg8.IsWhole) (hc0 : ¬cond0_0 i)
    (x0 : Vec F S1280x4096 .bf16) (x1 : Vec F S1024x4096 .bf16) (x2 : Vec F S1280x128 .f32) (x3 : Vec F S128x4096 .f32) (xs0 : Vec F S1280x1 .f32) : Vec F S1280x1024 .bf16 :=
  VO0_4.read (Elt F) (VO0_4.writes (Elt F) VO0_4.junk (kernelRun0_B c i arg2 harg2 arg3 harg3 arg4 harg4 arg5 harg5 arg6 harg6 arg7 harg7 arg8 harg8 hc0 x0 x1 x2 x3 xs0).1)

theorem cover0_B_5 (c : Dev nD) (i : grid0.Coords) (arg2 : Memref sig .tc .vmem S1280x4096 .bf16) (harg2 : arg2.IsWhole) (arg3 : Memref sig .tc .vmem S1024x4096 .bf16) (harg3 : arg3.IsWhole) (arg4 : Memref sig .tc .vmem S1280x128 .f32) (harg4 : arg4.IsWhole) (arg5 : Memref sig .tc .vmem S128x4096 .f32) (harg5 : arg5.IsWhole) (arg6 : Memref sig .tc .vmem S1280x1024 .bf16) (harg6 : arg6.IsWhole) (arg7 : Memref sig .tc .vmem S128x4096 .bf16) (harg7 : arg7.IsWhole) (arg8 : Memref sig .tc .vmem S1280x1 .f32) (harg8 : arg8.IsWhole) (hc0 : ¬cond0_0 i)
    (x0 : Vec F S1280x4096 .bf16) (x1 : Vec F S1024x4096 .bf16) (x2 : Vec F S1280x128 .f32) (x3 : Vec F S128x4096 .f32) (xs0 : Vec F S1280x1 .f32) (y : S128x4096.Idx) :
    ∃ pc ∈ (kernelRun0_B c i arg2 harg2 arg3 harg3 arg4 harg4 arg5 harg5 arg6 harg6 arg7 harg7 arg8 harg8 hc0 x0 x1 x2 x3 xs0).2.1, y ∈ pc.1.set :=
  View.cover_of_tiledL (kernelRun0_B c i arg2 harg2 arg3 harg3 arg4 harg4 arg5 harg5 arg6 harg6 arg7 harg7 arg8 harg8 hc0 x0 x1 x2 x3 xs0).2.1 S128x4096.size (by sl_kernel_rfl) y

def out0_B_5 (c : Dev nD) (i : grid0.Coords) (arg2 : Memref sig .tc .vmem S1280x4096 .bf16) (harg2 : arg2.IsWhole) (arg3 : Memref sig .tc .vmem S1024x4096 .bf16) (harg3 : arg3.IsWhole) (arg4 : Memref sig .tc .vmem S1280x128 .f32) (harg4 : arg4.IsWhole) (arg5 : Memref sig .tc .vmem S128x4096 .f32) (harg5 : arg5.IsWhole) (arg6 : Memref sig .tc .vmem S1280x1024 .bf16) (harg6 : arg6.IsWhole) (arg7 : Memref sig .tc .vmem S128x4096 .bf16) (harg7 : arg7.IsWhole) (arg8 : Memref sig .tc .vmem S1280x1 .f32) (harg8 : arg8.IsWhole) (hc0 : ¬cond0_0 i)
    (x0 : Vec F S1280x4096 .bf16) (x1 : Vec F S1024x4096 .bf16) (x2 : Vec F S1280x128 .f32) (x3 : Vec F S128x4096 .f32) (xs0 : Vec F S1280x1 .f32) : Vec F S128x4096 .bf16 :=
  VO0_5.read (Elt F) (VO0_5.writes (Elt F) VO0_5.junk (kernelRun0_B c i arg2 harg2 arg3 harg3 arg4 harg4 arg5 harg5 arg6 harg6 arg7 harg7 arg8 harg8 hc0 x0 x1 x2 x3 xs0).2.1)

def sout0_B_0 (c : Dev nD) (i : grid0.Coords) (arg2 : Memref sig .tc .vmem S1280x4096 .bf16) (harg2 : arg2.IsWhole) (arg3 : Memref sig .tc .vmem S1024x4096 .bf16) (harg3 : arg3.IsWhole) (arg4 : Memref sig .tc .vmem S1280x128 .f32) (harg4 : arg4.IsWhole) (arg5 : Memref sig .tc .vmem S128x4096 .f32) (harg5 : arg5.IsWhole) (arg6 : Memref sig .tc .vmem S1280x1024 .bf16) (harg6 : arg6.IsWhole) (arg7 : Memref sig .tc .vmem S128x4096 .bf16) (harg7 : arg7.IsWhole) (arg8 : Memref sig .tc .vmem S1280x1 .f32) (harg8 : arg8.IsWhole) (hc0 : ¬cond0_0 i)
    (x0 : Vec F S1280x4096 .bf16) (x1 : Vec F S1024x4096 .bf16) (x2 : Vec F S1280x128 .f32) (x3 : Vec F S128x4096 .f32) (xs0 : Vec F S1280x1 .f32) : Vec F S1280x1 .f32 := xs0

/-- What the two outputs' buffers and the carried scratch hold after the body at a position. -/
def outsAt0 (c : Dev nD) : (n : ℕ) → n < cfg0.N → Vec F S1280x1024 .bf16 × Vec F S128x4096 .bf16 × Vec F S1280x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩))
  | n + 1, hn =>
    if h0 : (n + 1) % 14 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2)

set_option maxHeartbeats 4000000 in
/-- At a row block's first point. -/
theorem outsAt0_A (c : Dev nD) (t : Fin cfg0.N) (h0 : t.val % 14 = 0) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t)) := by
  obtain ⟨n, hn⟩ := t
  cases n with
  | zero => exact rfl
  | succ n => exact (dif_pos h0).trans rfl

set_option maxHeartbeats 4000000 in
/-- At the other points, over what the point before left. -/
theorem outsAt0_B (c : Dev nD) (t : Fin cfg0.N) (h0 : ¬t.val % 14 = 0) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The invariant before a position: the scratch at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-- The pipeline's data on a core: the arrays at the start, the buffers after each point, the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 182 := lt_of_lt_of_eq t.isLt (show cfg0.N = 182 from N_0)
  by_cases h0 : t.val % 14 = 0
  · by_cases hz : t.val = 0
    · rw [PhiS_castSucc m c t, PhiS_zero m c _ _ hz, PhiA0_eq]
      rw [outsAt0_A m c t h0]
      unfold out0_A_4 out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m c 0 t) (iblk m c 1 t) (iblk m c 2 t) (iblk m c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _)
    · rw [PhiS_castSucc m c t, PhiS_pos m c _ _ hz]
      rw [outsAt0_A m c t h0]
      unfold out0_A_4 out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m c 0 t) (iblk m c 1 t) (iblk m c 2 t) (iblk m c 3 t)).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexists _; iexact HS0
      iintro ⟨H0, H1, H2, H3, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_A_4 c _ _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _ _)
  · by_cases hz : t.val = 0
    · exfalso; have hN : t.val < 182 := lt_of_lt_of_eq t.isLt (show cfg0.N = 182 from N_0); omega
    · rw [PhiS_castSucc m c t, PhiS_pos m c _ _ hz]
      rw [outsAt0_B m c t h0]
      unfold out0_B_4 out0_B_5 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (iblk m c 0 t) (iblk m c 1 t) (iblk m c 2 t) (iblk m c 3 t) _).2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, ⟨%e4, H4⟩, ⟨%e5, H5⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_B_4 c _ _ _ _ _ _ _ _ _ _ _ _ _ _ _ _ _ _ _ _ _)
      unfold owns; iexists _; isplitr
      swap; · iexact H5
      ipureintro; exact View.read_writes_of_cover _ _ _ _ _ (cover0_B_5 c _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 182 := N_0; omega)
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: every array of the pipeline ends at what its data computes, every other buffer as it was. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame, at any float values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel5Ideal.InProj

end
-- ==== Proof.Frames.lean ====
/- The frames of the programs read at bit patterns: such a program has the text of its twin read at extended reals, whose run holds over any
   float values, so the twin's frame is its own once their tables of bodies are known to be equal. -/
module

public import proofs.«01_k».proof.Defs
public import proofs.«01_k».proof.Proof.Gen.Kernel2
public import proofs.«01_k».proof.Proof.Gen.Kernel2Ideal.Frame
public import proofs.«01_k».proof.Proof.Gen.Kernel3
public import proofs.«01_k».proof.Proof.Gen.Kernel3Ideal.Frame
public import proofs.«01_k».proof.Proof.Gen.Kernel4
public import proofs.«01_k».proof.Proof.Gen.Kernel4Ideal.Frame
public import proofs.«01_k».proof.Proof.Gen.Kernel5
public import proofs.«01_k».proof.Proof.InFrame
public import proofs.«01_k».proof.Proof.Gen.Kernel6
public import proofs.«01_k».proof.Proof.Gen.Kernel6Ideal.Frame

@[expose] public section

noncomputable section

open Idealize.ShloMosaic Idealize.ShloMosaic.TcCoe Idealize.SL.Sem

namespace Cert.Frames

theorem bodies2 : Cert.Kernel2.defs₀ (F := Bits) = Cert.Kernel2Ideal.defs₀ (F := Bits) := by
  unfold Cert.Kernel2.defs₀ Cert.Kernel2Ideal.defs₀
  refine congrArg Defs.onTc (funext fun l => ?_)
  fin_cases l
  rfl

theorem defs2 : Cert.Kernel2.defs (F := Bits) = Cert.Kernel2Ideal.defs (F := Bits) := by
  unfold Cert.Kernel2.defs Cert.Kernel2Ideal.defs
  rw [bodies2]
  rfl

theorem frame2 : Cert.quiescent_Kernel2 := by
  intro m g _
  have h := Cert.Kernel2Ideal.Gen.frame (F := Bits) m g
  rw [← defs2] at h
  exact h

theorem bodies3 : Cert.Kernel3.defs₀ (F := Bits) = Cert.Kernel3Ideal.defs₀ (F := Bits) := by
  unfold Cert.Kernel3.defs₀ Cert.Kernel3Ideal.defs₀
  refine congrArg Defs.onTc (funext fun l => ?_)
  fin_cases l
  rfl

theorem defs3 : Cert.Kernel3.defs (F := Bits) = Cert.Kernel3Ideal.defs (F := Bits) := by
  unfold Cert.Kernel3.defs Cert.Kernel3Ideal.defs
  rw [bodies3]
  rfl

theorem frame3 : Cert.quiescent_Kernel3 := by
  intro m g _
  have h := Cert.Kernel3Ideal.Gen.frame (F := Bits) m g
  rw [← defs3] at h
  exact h

theorem bodies4 : Cert.Kernel4.defs₀ (F := Bits) = Cert.Kernel4Ideal.defs₀ (F := Bits) := by
  unfold Cert.Kernel4.defs₀ Cert.Kernel4Ideal.defs₀
  refine congrArg Defs.onTc (funext fun l => ?_)
  fin_cases l
  rfl

theorem defs4 : Cert.Kernel4.defs (F := Bits) = Cert.Kernel4Ideal.defs (F := Bits) := by
  unfold Cert.Kernel4.defs Cert.Kernel4Ideal.defs
  rw [bodies4]
  rfl

theorem frame4 : Cert.quiescent_Kernel4 := by
  intro m g _
  have h := Cert.Kernel4Ideal.Gen.frame (F := Bits) m g
  rw [← defs4] at h
  exact h

theorem bodies5 : Cert.Kernel5.defs₀ (F := Bits) = Cert.Kernel5Ideal.defs₀ (F := Bits) := by
  unfold Cert.Kernel5.defs₀ Cert.Kernel5Ideal.defs₀
  refine congrArg Defs.onTc (funext fun l => ?_)
  fin_cases l
  rfl

theorem defs5 : Cert.Kernel5.defs (F := Bits) = Cert.Kernel5Ideal.defs (F := Bits) := by
  unfold Cert.Kernel5.defs Cert.Kernel5Ideal.defs
  rw [bodies5]
  rfl

theorem frame5 : Cert.quiescent_Kernel5 := by
  intro m g _
  have h := Cert.Kernel5Ideal.InProj.frame (F := Bits) m g
  rw [← defs5] at h
  exact h

theorem bodies6 : Cert.Kernel6.defs₀ (F := Bits) = Cert.Kernel6Ideal.defs₀ (F := Bits) := by
  unfold Cert.Kernel6.defs₀ Cert.Kernel6Ideal.defs₀
  refine congrArg Defs.onTc (funext fun l => ?_)
  fin_cases l
  rfl

theorem defs6 : Cert.Kernel6.defs (F := Bits) = Cert.Kernel6Ideal.defs (F := Bits) := by
  unfold Cert.Kernel6.defs Cert.Kernel6Ideal.defs
  rw [bodies6]
  rfl

theorem frame6 : Cert.quiescent_Kernel6 := by
  intro m g _
  have h := Cert.Kernel6Ideal.Gen.frame (F := Bits) m g
  rw [← defs6] at h
  exact h

end Cert.Frames

end
-- ==== Proof.In.lean ====
/- The input projection's call: what its two results hold after the run, entry by entry. -/
module

public import proofs.«01_k».proof.Proof.Scale
public import proofs.«01_k».proof.Proof.InFrame
public import Idealize.ShloMosaic.Lib.Pipeline.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel5Ideal.InProj

open Cert.Kernel5Ideal Cert.Kernel5Ideal.Gen Cert.Stream

variable (m : (ℓ : Loc nD τ sig) → Buf (Elt Ideal) ℓ)

/-- The run ends with the two results at what the pipeline's data computes and the arguments as they were. -/
theorem run_results (g : Dev nD → PrngReg) : θ_run defs (onTc (τ := τ) (main (F := Ideal))) ⟨m, fun _ => 0, g⟩ fun r => ∀ c : Dev nD,
      r.2.mem ((c : Thread nD τ).loc main_v2_0) = (dats m 0 c).arrAt 4 cfg0.N
      ∧ r.2.mem ((c : Thread nD τ).loc main_v2_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) := by
  have h4 := (θ_run defs _ _).mono (fun r h (c : Dev nD) => (h c).1 4) (run_main m g)
  have h5 := (θ_run defs _ _).mono (fun r h (c : Dev nD) => (h c).1 5) (run_main m g)
  exact (θ_run defs _ _).mono (fun _ h c => ⟨h.1 c, h.2.1 c, h.2.2 c⟩) (θ_run_and h4 (θ_run_and h5 (unchanged m g)))

/-- How far the rows a point rounds are ahead of their place in the packed weight: the small gates' columns are left out. -/
def shift (s : ℕ) : ℕ := if 48 ≤ s then 24 else if 24 ≤ s then 8 else 0

/-- Where each window stands at every point of the grid: the next layer's weight by its first row, the others by block. -/
theorem idx : ∀ t : Fin cfg0.N, win0_0.index t = ![t.val / 14, 0] ∧ win0_1.index t = ![t.val % 14, 0] ∧ win0_2.index t = ![t.val / 14, 0]
    ∧ win0_3.index t = ![14360 + 128 * min t.val 111 + shift (min t.val 111), 0] ∧ win0_4.index t = ![t.val / 14, t.val % 14]
    ∧ win0_5.index t = ![min t.val 111, 0] :=
  (by decide +kernel : ∀ t : Fin grid0.N, _)

theorem lt_N (t : Fin cfg0.N) : t.val < 182 := t.isLt.trans_eq N_0

theorem iblk0_read (c : Dev nD) (t : Fin cfg0.N) (r : Fin 1280) (k : Fin 4096) :
    iblk m c 0 t (ix2 r k) = m ((c : Thread nD τ).loc main_arg0) (ix2 ⟨1280 * (t.val / 14) + r.val, by have := lt_N t; omega⟩ k) := by
  have := lt_N t
  blk_ext [iblk, V_main_arg0, idx t]

theorem iblk1_read (c : Dev nD) (t : Fin cfg0.N) (j : Fin 1024) (k : Fin 4096) :
    iblk m c 1 t (ix2 j k) = m ((c : Thread nD τ).loc main_arg2) (ix2 ⟨1024 * (t.val % 14) + j.val, by omega⟩ k) := by
  have := lt_N t
  blk_ext [iblk, V_main_arg2, idx t]

theorem iblk2_read (c : Dev nD) (t : Fin cfg0.N) (r : Fin 1280) (l : Fin 128) :
    iblk m c 2 t (ix2 r l) = m ((c : Thread nD τ).loc main_arg1) (ix2 ⟨1280 * (t.val / 14) + r.val, by have := lt_N t; omega⟩ l) := by
  have := lt_N t
  blk_ext [iblk, V_main_arg1, idx t]

theorem shift_lt (s : ℕ) (h : s ≤ 111) (r : Fin 128) : 128 * s + r.val + shift s < 14360 := by
  unfold shift
  split <;> [skip; split] <;> omega

/-- The four layers' weights under each other, each transposed. -/
theorem V_main_v1 (c : Dev nD) (r : Fin 14360) (k : Fin 4096) :
    (show FVec Ideal S57440x4096 .f32 from V m c main_v1) (ix2 ⟨14360 + r.val, by omega⟩ k) = m ((c : Thread nD τ).loc main_arg3) (ix3 1 k r) := by
  dsimp only [V, hostOps0]
  after_results
  pointwise
  exact congrArg (fun a : Fin 4 => (m ((c : Thread nD τ).loc main_arg3) : FVec Ideal S4x4096x14360 .f32) (ix3 a k r))
    (Fin.ext (show (14360 + r.val) / 14360 = 1 by omega))

theorem iblk3_read (c : Dev nD) (t : Fin cfg0.N) (r : Fin 128) (k : Fin 4096) :
    iblk m c 3 t (ix2 r k) = m ((c : Thread nD τ).loc main_arg3)
      (ix3 1 k ⟨128 * min t.val 111 + r.val + shift (min t.val 111), shift_lt _ (Nat.min_le_right ..) r⟩) := by
  refine Eq.trans ?_ (V_main_v1 m c _ _)
  blk_simp [iblk]
  refine congrArg _ (funext fun a => Fin.ext ?_)
  refine (win0_3.rect_emb_val_off t (ix2 r k) a).trans ?_
  show win0_3.index t a + (ix2 r k a).val = _
  rw [(idx t).2.2.2.1]
  fin_cases a
  · show 14360 + 128 * min t.val 111 + shift (min t.val 111) + r.val = 14360 + (128 * min t.val 111 + r.val + shift (min t.val 111))
    omega
  · exact Nat.zero_add _

/-- The scale the first column block of a row block computes. -/
theorem scale_read (v : FVec Ideal S1280x128 .f32) (r : Fin 1280) : k0_pay2 (F := Ideal) v (ix2 r 0) = rowScale fun l => v (ix2 r l) := by
  unfold rowScale
  rw [← mul_inv_4096]
  pointwise [k0_pay2]

/-- The rounding of the next weight's rows. -/
theorem cast_read (v : FVec Ideal S128x4096 .f32) (r : Fin 128) (j : Fin 4096) : k0_pay1 (F := Ideal) v (ix2 r j) = v (ix2 r j) := by
  pointwise [k0_pay1]

/-- The block of the product, each row's scaled. -/
theorem product_read (x : FVec Ideal S1280x4096 .bf16) (w : FVec Ideal S1024x4096 .bf16) (s : FVec Ideal S1280x1 .f32) (r : Fin 1280) (j : Fin 1024) :
    k0_pay3 (F := Ideal) x w s (ix2 r j) = (∑ k, x (ix2 r k) * w (ix2 j k)) * s (ix2 r 0) := by
  pointwise [k0_pay3]

/-- The scale of row `r` of the whole array of partial sums. -/
def scaleAt (X1 : FVec Ideal S16640x128 .f32) (r : Fin 16640) : EReal := rowScale fun l => X1 (ix2 r l)

/-- The product at a row and a column of the whole arrays. -/
def prodAt (X0 : FVec Ideal S16640x4096 .bf16) (X2 : FVec Ideal S14336x4096 .bf16) (r : Fin 16640) (j : Fin 14336) : EReal :=
  ∑ k : Fin 4096, X0 (ix2 r k) * X2 (ix2 j k)

theorem row_lt (n : ℕ) (hn : n < cfg0.N) (r : Fin 1280) : 1280 * (n / 14) + r.val < 16640 := by
  have : n < 182 := lt_N ⟨n, hn⟩
  omega

/-- The carried scale after point `n`: that of the row block the point works on. -/
theorem scale_after (c : Dev nD) : ∀ (n : ℕ) (hn : n < cfg0.N) (r : Fin 1280),
    (outsAt0 m c n hn).2.2 (ix2 r 0)
      = scaleAt (m ((c : Thread nD τ).loc main_arg1)) ⟨1280 * (n / 14) + r.val, row_lt n hn r⟩ := by
  have first : ∀ (n : ℕ) (hn : n < cfg0.N) (r : Fin 1280) (h0 : n % 14 = 0), (outsAt0 m c n hn).2.2 (ix2 r 0)
      = scaleAt (m ((c : Thread nD τ).loc main_arg1)) ⟨1280 * (n / 14) + r.val, row_lt n hn r⟩ := fun n hn r h0 => by
    refine (congrFun (congrArg (fun p => p.2.2) (outsAt0_A m c ⟨n, hn⟩ h0)) _).trans ?_
    dsimp only
    frame_out
    rw [scale_read]
    exact congrArg rowScale (funext fun l => iblk2_read m c ⟨n, hn⟩ r l)
  intro n
  induction n with
  | zero => exact fun hn r => first 0 hn r rfl
  | succ n ih =>
    intro hn r
    by_cases h0 : (n + 1) % 14 = 0
    · exact first _ hn r h0
    · have h1 : n < cfg0.N := Nat.lt_of_succ_lt hn
      have b := congrArg (fun p => p.2.2) (outsAt0_B m c ⟨n + 1, hn⟩ h0)
      dsimp only at b
      refine (congrFun b _).trans ?_
      unfold sout0_B_0
      have e : n / 14 = (n + 1) / 14 := by omega
      refine (ih h1 r).trans (congrArg (scaleAt _) (Fin.ext ?_))
      show 1280 * (n / 14) + r.val = 1280 * ((n + 1) / 14) + r.val
      rw [e]

/-- The first result's block after point `t`. -/
theorem product_after (c : Dev nD) (t : Fin cfg0.N) (r : Fin 1280) (j : Fin 1024) :
    (outsAt0 m c t.val t.isLt).1 (ix2 r j)
      = prodAt (m ((c : Thread nD τ).loc main_arg0)) (m ((c : Thread nD τ).loc main_arg2)) ⟨1280 * (t.val / 14) + r.val, row_lt _ t.isLt r⟩
          ⟨1024 * (t.val % 14) + j.val, by omega⟩
        * scaleAt (m ((c : Thread nD τ).loc main_arg1)) ⟨1280 * (t.val / 14) + r.val, row_lt _ t.isLt r⟩ := by
  have hN := lt_N t
  by_cases h0 : t.val % 14 = 0
  · refine (congrFun (congrArg (fun p => p.1) (outsAt0_A m c t h0)) _).trans ?_
    dsimp only
    frame_out
    rw [product_read, scale_read]
    simp only [iblk0_read, iblk1_read, iblk2_read]
    rfl
  · refine (congrFun (congrArg (fun p => p.1) (outsAt0_B m c t h0)) _).trans ?_
    dsimp only
    frame_out
    rw [product_read]
    simp only [iblk0_read, iblk1_read]
    have e : (t.val - 1) / 14 = t.val / 14 := by omega
    refine congrArg (prodAt _ _ _ _ * ·) ?_
    refine (congrFun ((Memref.isWhole_whole cc0_scratch0).read_unread _) _).trans ((scale_after m c _ _ r).trans ?_)
    refine congrArg (scaleAt _) (Fin.ext ?_)
    show 1280 * ((t.val - 1) / 14) + r.val = 1280 * (t.val / 14) + r.val
    rw [e]

/-- The second result's block after point `t`: rows of the next weight. -/
theorem cast_after (c : Dev nD) (t : Fin cfg0.N) (r : Fin 128) (j : Fin 4096) :
    (outsAt0 m c t.val t.isLt).2.1 (ix2 r j) = m ((c : Thread nD τ).loc main_arg3)
      (ix3 1 j ⟨128 * min t.val 111 + r.val + shift (min t.val 111), shift_lt _ (Nat.min_le_right ..) r⟩) := by
  rw [← iblk3_read m c t r j]
  by_cases h0 : t.val % 14 = 0
  · refine (congrFun (congrArg (fun p => p.2.1) (outsAt0_A m c t h0)) _).trans ?_
    dsimp only
    frame_out
    exact cast_read _ r j
  · refine (congrFun (congrArg (fun p => p.2.1) (outsAt0_B m c t h0)) _).trans ?_
    dsimp only
    frame_out
    exact cast_read _ r j

/-- The projection entry by entry, with the scale inside the product's sum. -/
def proj (X0 : FVec Ideal S16640x4096 .bf16) (X1 : FVec Ideal S16640x128 .f32) (X2 : FVec Ideal S14336x4096 .bf16) (r : Fin 16640) (j : Fin 14336) : EReal :=
  ∑ k : Fin 4096, X0 (ix2 r k) * scaleAt X1 r * X2 (ix2 j k)

/-- With partial sums that are not negative, the scale may be applied to each left factor. -/
theorem scaled (X0 : FVec Ideal S16640x4096 .bf16) (X1 : FVec Ideal S16640x128 .f32) (X2 : FVec Ideal S14336x4096 .bf16)
    (H : ∀ i, (0 : EReal) ≤ X1 i) (r : Fin 16640) (j : Fin 14336) : prodAt X0 X2 r j * scaleAt X1 r = proj X0 X1 X2 r j := by
  have g := rowScale_good (fun l => X1 (ix2 r l)) fun l => H _
  exact sum_mul_scale _ _ g.1 g.2

/-- The kernel's first result after the run. -/
theorem final4 (c : Dev nD) (H : ∀ i, (0 : EReal) ≤ (m ((c : Thread nD τ).loc main_arg1) : FVec Ideal S16640x128 .f32) i) :
    (dats m 0 c).arrAt 4 (cfgs 0).N = (fun i : S16640x14336.Idx =>
      proj (m ((c : Thread nD τ).loc main_arg0)) (m ((c : Thread nD τ).loc main_arg1)) (m ((c : Thread nD τ).loc main_arg2)) (i 0) (i 1)) := by
  refine (dats m 0 c).arrAt_eq_of_covers 4 _ (by decide +kernel) fun t _ y => ?_
  blk_simp
  rw [after0_4]
  obtain ⟨r, j, rfl⟩ : ∃ (r : Fin 1280) (j : Fin 1024), y = ix2 r j := ⟨y 0, y 1, eq_ix2 y⟩
  refine (product_after m c t r j).trans ?_
  have hN := lt_N t
  have e : ((win0_4.blk t).view.emb (ix2 r j) : S16640x14336.Idx) = ix2 ⟨1280 * (t.val / 14) + r.val, by omega⟩ ⟨1024 * (t.val % 14) + j.val, by omega⟩ := by
    blk_ext [idx t]
  rw [e]
  exact scaled (m ((c : Thread nD τ).loc main_arg0)) (m ((c : Thread nD τ).loc main_arg1)) (m ((c : Thread nD τ).loc main_arg2)) H _ _

/-- The column of the weight that row `r` of the packed weight holds. -/
def col (r : Fin 14336) : Fin 14360 := ⟨r.val + shift (r.val / 128), by
  have := shift_lt (r.val / 128) (by omega) ⟨r.val % 128, by omega⟩
  dsimp only at this
  omega⟩

/-- The kernel's second result after the run: the weight of layer 1, transposed, without the small gates' columns. -/
theorem final5 (c : Dev nD) : (dats m 0 c).arrAt 5 (cfgs 0).N = (fun i : S14336x4096.Idx =>
    m ((c : Thread nD τ).loc main_arg3) (ix3 1 (i 1) (col (i 0)))) := by
  refine (dats m 0 c).arrAt_eq_of_covers 5 _ (by decide +kernel) fun t _ y => ?_
  blk_simp
  rw [after0_5]
  obtain ⟨r, j, rfl⟩ : ∃ (r : Fin 128) (j : Fin 4096), y = ix2 r j := ⟨y 0, y 1, eq_ix2 y⟩
  refine (cast_after m c t r j).trans ?_
  have hN := lt_N t
  have e : ((win0_5.blk t).view.emb (ix2 r j) : S14336x4096.Idx) = ix2 ⟨128 * min t.val 111 + r.val, by omega⟩ j := by
    blk_ext [idx t]
  rw [e]
  refine congrArg _ (congrArg (ix3 1 j) (Fin.ext ?_))
  show _ = 128 * min t.val 111 + r.val + shift ((128 * min t.val 111 + r.val) / 128)
  rw [show (128 * min t.val 111 + r.val) / 128 = min t.val 111 by omega]

end Cert.Kernel5Ideal.InProj

end
-- ==== Proof.InRef.lean ====
/- The input projection: the reference's two results, and their equality with the kernel's. -/
module

public import proofs.«01_k».proof.Defs
public import proofs.«01_k».proof.Proof.In
public import proofs.«01_k».proof.Proof.Gen.Reference5Ideal.Run
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Pre_in_sums_nonneg

/-- The shape condition the precondition's operation takes. -/
instance facts : Facts where
  bcast_S_S16640x128 := by decide

/-- Under the precondition no partial sum of squares is negative. -/
theorem nonneg (X0 : FVec Ideal S16640x4096 .bf16) (X1 : FVec Ideal S16640x128 .f32) (X2 : FVec Ideal S14336x4096 .bf16) (X3 : FVec Ideal S4x4096x14360 .f32)
    (h : fn (F := Ideal) X0 X1 X2 X3 = (fun _ => 1#1)) (i : S16640x128.Idx) : (0 : EReal) ≤ X1 i := by
  refine Cert.Stream.nonneg_of_cmp _ (Eq.trans ?_ (congrFun h i))
  dsimp only [fn]
  rfl

end Cert.Pre_in_sums_nonneg

namespace Cert.Reference5Ideal.Entry

open Cert.Reference5Ideal Cert.Reference5Ideal.Gen Cert.Stream

/-- The normalised rows, as the reference composes them. -/
def rows (X0 : FVec Ideal S16640x4096 .bf16) (X1 : FVec Ideal S16640x128 .f32) : FVec Ideal S16640x4096 .f32 :=
  mulf (extf .f32 X0 bitsLt_bf16_f32) (broadcastInDim S16640x4096 ![0, 1] bcast_S16640x1_S16640x4096_0_1 (Host.rsqrt (addf (Host.divf
    (broadcastInDim S16640x1 ![0] bcast_S16640_S16640x1_0 (Host.reduceAdd X1 (constant S_ .f32 0x00000000#32) reducesTo_S16640x128_S16640_d1 h_S_))
    (broadcastInDim S16640x1 ![] bcast_S_S16640x1 (constant S_ .f32 0x45800000#32))) (broadcastInDim S16640x1 ![] bcast_S_S16640x1 (constant S_ .f32 0x358637BD#32)))))

theorem rows_read (X0 : FVec Ideal S16640x4096 .bf16) (X1 : FVec Ideal S16640x128 .f32) (r : Fin 16640) (k : Fin 4096) :
    rows X0 X1 (ix2 r k) = X0 (ix2 r k) * rowScale fun l => X1 (ix2 r l) := by
  unfold rowScale
  pointwise [rows]

/-- Their product with the packed weight. -/
def product (X0 : FVec Ideal S16640x4096 .bf16) (X1 : FVec Ideal S16640x128 .f32) (X2 : FVec Ideal S14336x4096 .bf16) : FVec Ideal S16640x14336 .f32 :=
  Host.dotGeneral dot_S16640x4096_S4096x14336_S16640x14336_1_0_0_1_n_n none (rows X0 X1)
    (transpose S4096x14336 [1, 0] (extf .f32 X2 bitsLt_bf16_f32) transposes_S14336x4096_S4096x14336_1_0)

theorem product_read (X0 : FVec Ideal S16640x4096 .bf16) (X1 : FVec Ideal S16640x128 .f32) (X2 : FVec Ideal S14336x4096 .bf16) (r : Fin 16640) (j : Fin 14336) :
    truncf (F := Ideal) .bf16 (product X0 X1 X2) bitsLt_bf16_f32 (ix2 r j) = Cert.Kernel5Ideal.InProj.proj X0 X1 X2 r j := by
  pointwise [product]
  simp only [rows_read]
  rfl

/-- The weight of layer 1, transposed. -/
def trans (X3 : FVec Ideal S4x4096x14360 .f32) : FVec Ideal S14360x4096 .f32 :=
  transpose S14360x4096 [1, 0] (shapeCast S4096x14360 (extractStridedSlice S1x4096x14360 ![1, 0, 0] X3 slices_S4x4096x14360_S1x4096x14360_1_0_0)
    shapeCasts_S1x4096x14360_S4096x14360) transposes_S4096x14360_S14360x4096_1_0

theorem trans_read (X3 : FVec Ideal S4x4096x14360 .f32) (r : Fin 14360) (j : Fin 4096) : trans X3 (ix2 r j) = X3 (ix3 1 j r) := by
  pointwise [trans]

/-- Its three runs of rows that are not the small gates', under each other. -/
def packed (X3 : FVec Ideal S4x4096x14360 .f32) : FVec Ideal S14336x4096 .f32 :=
  concatenate S14336x4096 0 [⟨S3072x4096, extractStridedSlice S3072x4096 ![0, 0] (trans X3) slices_S14360x4096_S3072x4096_0_0⟩,
    ⟨S3072x4096, extractStridedSlice S3072x4096 ![3080, 0] (trans X3) slices_S14360x4096_S3072x4096_3080_0⟩,
    ⟨S8192x4096, extractStridedSlice S8192x4096 ![6168, 0] (trans X3) slices_S14360x4096_S8192x4096_6168_0⟩]
    concatenates_S3072x4096_S3072x4096_S8192x4096_S14336x4096_d0

theorem packed_read (X3 : FVec Ideal S4x4096x14360 .f32) (r : Fin 14336) (j : Fin 4096) :
    truncf (F := Ideal) .bf16 (packed X3) bitsLt_bf16_f32 (ix2 r j) = X3 (ix3 1 j (Cert.Kernel5Ideal.InProj.col r)) := by
  refine Eq.trans ?_ (trans_read X3 _ j)
  pointwise [packed]
  have e (a : Fin 14360) (h : a.val = r.val + Cert.Kernel5Ideal.InProj.shift (r.val / 128)) : trans X3 (ix2 a j) = trans X3 (ix2 (Cert.Kernel5Ideal.InProj.col r) j) :=
    congrArg (fun a => trans X3 (ix2 a j)) (Fin.ext h)
  have hr := r.isLt
  by_cases h : r.val < 3072
  · refine (dif_pos h).trans (e _ ?_)
    unfold Cert.Kernel5Ideal.InProj.shift
    rw [if_neg (show ¬48 ≤ r.val / 128 by omega), if_neg (show ¬24 ≤ r.val / 128 by omega)]
    rfl
  · refine (dif_neg h).trans ?_
    by_cases h' : r.val - 3072 < 3072
    · refine (dif_pos h').trans (e _ ?_)
      unfold Cert.Kernel5Ideal.InProj.shift
      rw [if_neg (show ¬48 ≤ r.val / 128 by omega), if_pos (show 24 ≤ r.val / 128 by omega)]
      show 3080 + (r.val - 3072) = r.val + 8
      omega
    · refine (dif_neg h').trans (e _ ?_)
      unfold Cert.Kernel5Ideal.InProj.shift
      rw [if_pos (show 48 ≤ r.val / 128 by omega)]
      show 6168 + (r.val - 3072 - 3072) = r.val + 24
      omega

/-- The reference terminates, keeps its arguments and owns no semaphore, whatever the memory. -/
theorem frame : Cert.quiescent_Reference5Ideal := fun m g _ => (θ_run Cert.Reference5Ideal.defs _ _).mono
  (fun r h => And.intro (fun c => (h c).2.2) (Idealize.ShloMosaic.sem_eq_zero_of_no_sems (by decide) r.2)) (Cert.Reference5Ideal.Value.run m g)

/-- From memories that agree on the arguments, with no negative partial sum, the kernel's projection and packed weight are the reference's. -/
theorem algebraic : Cert.algebraic_Kernel5Ideal_Reference5Ideal_pre_in_sums_nonneg (hPre_in_sums_nonneg := Cert.Pre_in_sums_nonneg.facts) := by
  intro m g m' g' hpre hagree
  refine ⟨fun c => (Cert.Kernel5Ideal.InProj.dats m 0 c).arrAt 4 Cert.Kernel5Ideal.cfg0.N, fun c => (Cert.Kernel5Ideal.InProj.dats m 0 c).arrAt 5 Cert.Kernel5Ideal.cfg0.N,
    Cert.Kernel5Ideal.InProj.run_results m g, ?_⟩
  refine (θ_run Cert.Reference5Ideal.defs _ _).mono (fun r h c => ?_) (Cert.Reference5Ideal.Value.run m' g')
  obtain ⟨a0, a1, a2, a3⟩ := hagree c
  obtain ⟨h0, h1, hargs⟩ := h c
  have H := Cert.Pre_in_sums_nonneg.nonneg _ _ _ _ (hpre c)
  refine ⟨h0.trans ?_, h1.trans ?_, hargs⟩
  · rw [a0, a1, a2]
    refine Eq.trans ?_ (Cert.Kernel5Ideal.InProj.final4 m c H).symm
    funext i
    obtain ⟨r, j, rfl⟩ : ∃ (r : Fin 16640) (j : Fin 14336), i = ix2 r j := ⟨i 0, i 1, eq_ix2 i⟩
    exact product_read _ _ _ r j
  · rw [a3]
    refine Eq.trans ?_ (Cert.Kernel5Ideal.InProj.final5 m c).symm
    funext i
    obtain ⟨r, j, rfl⟩ : ∃ (r : Fin 14336) (j : Fin 4096), i = ix2 r j := ⟨i 0, i 1, eq_ix2 i⟩
    exact packed_read _ r j

end Cert.Reference5Ideal.Entry

end
-- ==== Proof.Merge.lean ====
/- The merge of the two mixers' branches: what the call's result holds after the run, entry by entry. -/
module

public import proofs.«01_k».proof.Proof.Args
public import proofs.«01_k».proof.Proof.Gen.Kernel6Ideal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel6Ideal.Merge

open Cert.Kernel6Ideal Cert.Kernel6Ideal.Gen

variable (m : (ℓ : Loc nD τ sig) → Buf (Elt Ideal) ℓ)

/-- Where each window stands at every point of the grid: the branches by row block, their weights by column block, the gates by both, each
    behind its own first column. -/
theorem idx : ∀ t : Fin cfg0.N, win0_0.index t = ![t.val / 4, 0] ∧ win0_1.index t = ![t.val / 4, 0] ∧ win0_2.index t = ![0, 0, t.val % 4]
    ∧ win0_3.index t = ![0, 0, t.val % 4] ∧ win0_4.index t = ![t.val / 4, 6 + t.val % 4] ∧ win0_5.index t = ![t.val / 4, 10 + t.val % 4]
    ∧ win0_6.index t = ![t.val / 4, t.val % 4] :=
  (by decide +kernel : ∀ t : Fin grid0.N, _)

theorem lt_N (t : Fin cfg0.N) : t.val < 52 := t.isLt.trans_eq N_0

/-- Row `r` of a branch: the two sequences' tokens under each other. -/
def token (X : FVec Ideal S2x8320x1024 .bf16) (r : Fin 16640) (k : Fin 1024) : EReal :=
  X (ix3 ⟨r.val / 8320, by omega⟩ ⟨r.val % 8320, by omega⟩ k)

theorem V_main_v0 (c : Dev nD) (r : Fin 16640) (k : Fin 1024) :
    (show FVec Ideal S16640x1024 .bf16 from V m c main_v0) (ix2 r k) = token (m ((c : Thread nD τ).loc main_arg0)) r k := by
  dsimp only [V, hostOps0]
  after_results
  unfold token
  pointwise

theorem V_main_v1 (c : Dev nD) (r : Fin 16640) (k : Fin 1024) :
    (show FVec Ideal S16640x1024 .bf16 from V m c main_v1) (ix2 r k) = token (m ((c : Thread nD τ).loc main_arg1)) r k := by
  dsimp only [V, hostOps0]
  after_results
  unfold token
  pointwise

theorem row_lt (t : Fin cfg0.N) (r : Fin 1280) : 1280 * (t.val / 4) + r.val < 16640 := by
  have := lt_N t
  omega

theorem iblk0_read (c : Dev nD) (t : Fin cfg0.N) (r : Fin 1280) (k : Fin 1024) :
    iblk m c 0 t (ix2 r k) = token (m ((c : Thread nD τ).loc main_arg0)) ⟨1280 * (t.val / 4) + r.val, row_lt t r⟩ k := by
  refine Eq.trans ?_ (V_main_v0 m c _ k)
  blk_ext [iblk, idx t]

theorem iblk1_read (c : Dev nD) (t : Fin cfg0.N) (r : Fin 1280) (k : Fin 1024) :
    iblk m c 1 t (ix2 r k) = token (m ((c : Thread nD τ).loc main_arg1)) ⟨1280 * (t.val / 4) + r.val, row_lt t r⟩ k := by
  refine Eq.trans ?_ (V_main_v1 m c _ k)
  blk_ext [iblk, idx t]

theorem iblk2_read (c : Dev nD) (t : Fin cfg0.N) (k : Fin 1024) (j : Fin 1024) :
    iblk m c 2 t (ix3 0 k j) = m ((c : Thread nD τ).loc main_arg3) (ix3 0 k ⟨1024 * (t.val % 4) + j.val, by omega⟩) := by
  blk_ext [iblk, V_main_arg3, idx t]

theorem iblk3_read (c : Dev nD) (t : Fin cfg0.N) (k : Fin 1024) (j : Fin 1024) :
    iblk m c 3 t (ix3 0 k j) = m ((c : Thread nD τ).loc main_arg4) (ix3 0 k ⟨1024 * (t.val % 4) + j.val, by omega⟩) := by
  blk_ext [iblk, V_main_arg4, idx t]

theorem iblk4_read (c : Dev nD) (t : Fin cfg0.N) (r : Fin 1280) (j : Fin 1024) :
    iblk m c 4 t (ix2 r j) = m ((c : Thread nD τ).loc main_arg2) (ix2 ⟨1280 * (t.val / 4) + r.val, row_lt t r⟩ ⟨6144 + (1024 * (t.val % 4) + j.val), by omega⟩) := by
  have := lt_N t
  blk_ext [iblk, V_main_arg2, idx t]

theorem iblk5_read (c : Dev nD) (t : Fin cfg0.N) (r : Fin 1280) (j : Fin 1024) :
    iblk m c 5 t (ix2 r j) = m ((c : Thread nD τ).loc main_arg2) (ix2 ⟨1280 * (t.val / 4) + r.val, row_lt t r⟩ ⟨10240 + (1024 * (t.val % 4) + j.val), by omega⟩) := by
  have := lt_N t
  blk_ext [iblk, V_main_arg2, idx t]

/-- The logistic function, as the reference writes it. -/
def gate (g : EReal) : EReal := Ideal.div 1 (1 + Ideal.exp (-g))

/-- The block of the result: the two products, each behind its gate. -/
theorem block_read (ya yb : FVec Ideal S1280x1024 .bf16) (wa wb : FVec Ideal S1x1024x1024 .bf16) (ga gb : FVec Ideal S1280x1024 .bf16) (r : Fin 1280) (j : Fin 1024) :
    k0_pay1 (F := Ideal) ya wa yb wb ga gb (ix2 r j)
      = gate (ga (ix2 r j)) * (∑ k, ya (ix2 r k) * wa (ix3 0 k j)) + gate (gb (ix2 r j)) * (∑ k, yb (ix2 r k) * wb (ix3 0 k j)) := by
  unfold gate
  simp only [← Cert.Gla.sigmoid_tanh]
  pointwise [k0_pay1]

/-- The merge entry by entry. -/
def mergeAt (X0 X1 : FVec Ideal S2x8320x1024 .bf16) (X2 : FVec Ideal S16640x14336 .bf16) (X3 X4 : FVec Ideal S4x1024x4096 .bf16) (r : Fin 16640) (j : Fin 4096) : EReal :=
  gate (X2 (ix2 r ⟨6144 + j.val, by omega⟩)) * (∑ k, token X0 r k * X3 (ix3 0 k j)) + gate (X2 (ix2 r ⟨10240 + j.val, by omega⟩)) * (∑ k, token X1 r k * X4 (ix3 0 k j))

/-- The kernel's result after the run. -/
theorem final6 (c : Dev nD) : (dats m 0 c).arrAt 6 (cfgs 0).N = (fun i : S16640x4096.Idx =>
    mergeAt (m ((c : Thread nD τ).loc main_arg0)) (m ((c : Thread nD τ).loc main_arg1)) (m ((c : Thread nD τ).loc main_arg2))
      (m ((c : Thread nD τ).loc main_arg3)) (m ((c : Thread nD τ).loc main_arg4)) (i 0) (i 1)) := by
  refine (dats m 0 c).arrAt_eq_of_covers 6 _ (by decide +kernel) fun t _ y => ?_
  blk_simp
  rw [after0_6]
  obtain ⟨r, j, rfl⟩ : ∃ (r : Fin 1280) (j : Fin 1024), y = ix2 r j := ⟨y 0, y 1, eq_ix2 y⟩
  have hN := lt_N t
  frame_out
  rw [block_read]
  simp only [iblk0_read, iblk1_read, iblk2_read, iblk3_read, iblk4_read, iblk5_read]
  have e : ((win0_6.blk t).view.emb (ix2 r j) : S16640x4096.Idx) = ix2 ⟨1280 * (t.val / 4) + r.val, by omega⟩ ⟨1024 * (t.val % 4) + j.val, by omega⟩ := by
    blk_ext [idx t]
  rw [e]
  rfl

end Cert.Kernel6Ideal.Merge

end
-- ==== Proof.MergeRef.lean ====
/- The merge of the branches: the reference's result, and its equality with the kernel's. -/
module

public import proofs.«01_k».proof.Defs
public import proofs.«01_k».proof.Proof.Merge
public import proofs.«01_k».proof.Proof.Gen.Reference6Ideal.Run
public import Idealize.ShloMosaic.Lib.Pointwise
public import Idealize.ShloMosaic.Lib.Quiescent

@[expose] public section

set_option maxRecDepth 16384

noncomputable section

open Idealize.ShloMosaic Idealize.ShloMosaic.TcCoe Idealize.SL.Sem

namespace Cert.Reference6Ideal.Entry

open Cert.Reference6Ideal Cert.Reference6Ideal.Gen Cert.Kernel6Ideal.Merge

/-- The logistic function of an array. -/
def gates (x : FVec Ideal S16640x4096 .bf16) : FVec Ideal S16640x4096 .f32 :=
  Host.divf (broadcastInDim S16640x4096 ![] bcast_S_S16640x4096 (constant S_ .f32 0x3F800000#32))
    (addf (broadcastInDim S16640x4096 ![] bcast_S_S16640x4096 (constant S_ .f32 0x3F800000#32)) (Host.exp (Host.negf (extf .f32 x bitsLt_bf16_f32))))

theorem gates_read (x : FVec Ideal S16640x4096 .bf16) (r : Fin 16640) (j : Fin 4096) : gates x (ix2 r j) = gate (x (ix2 r j)) := by
  unfold gate
  pointwise [gates]

/-- A branch times its weight in layer 0. -/
def branch (X : FVec Ideal S2x8320x1024 .bf16) (W : FVec Ideal S4x1024x4096 .bf16) : FVec Ideal S16640x4096 .f32 :=
  Host.dotGeneral dot_S16640x1024_S1024x4096_S16640x4096_1_0_0_1_n_n none (extf .f32 (shapeCast S16640x1024 X shapeCasts_S2x8320x1024_S16640x1024) bitsLt_bf16_f32)
    (extf .f32 (shapeCast S1024x4096 (extractStridedSlice S1x1024x4096 ![0, 0, 0] W slices_S4x1024x4096_S1x1024x4096_0_0_0) shapeCasts_S1x1024x4096_S1024x4096) bitsLt_bf16_f32)

theorem branch_read (X : FVec Ideal S2x8320x1024 .bf16) (W : FVec Ideal S4x1024x4096 .bf16) (r : Fin 16640) (j : Fin 4096) :
    branch X W (ix2 r j) = ∑ k, token X r k * W (ix3 0 k j) := by
  unfold token
  pointwise [branch]

variable (X0 X1 : FVec Ideal S2x8320x1024 .bf16) (X2 : FVec Ideal S16640x14336 .bf16) (X3 X4 : FVec Ideal S4x1024x4096 .bf16)

theorem merge_read (r : Fin 16640) (j : Fin 4096) :
    truncf (F := Ideal) .bf16 (addf (mulf (gates (extractStridedSlice S16640x4096 ![0, 6144] X2 slices_S16640x14336_S16640x4096_0_6144)) (branch X0 X3))
      (mulf (gates (extractStridedSlice S16640x4096 ![0, 10240] X2 slices_S16640x14336_S16640x4096_0_10240)) (branch X1 X4))) bitsLt_bf16_f32 (ix2 r j)
      = mergeAt X0 X1 X2 X3 X4 r j := by
  unfold mergeAt
  rw [← branch_read, ← branch_read]
  pointwise
  simp only [gates_read]
  pointwise

/-- The reference terminates, keeps its arguments and owns no semaphore, whatever the memory. -/
theorem frame : Cert.quiescent_Reference6Ideal := fun m g _ => (θ_run Cert.Reference6Ideal.defs _ _).mono
  (fun r h => And.intro (fun c => (h c).2) (Idealize.ShloMosaic.sem_eq_zero_of_no_sems (by decide) r.2)) (Cert.Reference6Ideal.Value.run m g)

/-- From memories that agree on the arguments the kernel's result is the reference's. -/
theorem algebraic : Cert.algebraic_Kernel6Ideal_Reference6Ideal := by
  intro m g m' g' _ hagree
  refine ⟨fun c => (Cert.Kernel6Ideal.Gen.dats m 0 c).arrAt 6 Cert.Kernel6Ideal.cfg0.N, Cert.Kernel6Ideal.Value.run_blocks m g, ?_⟩
  refine (θ_run Cert.Reference6Ideal.defs _ _).mono (fun r h c => ?_) (Cert.Reference6Ideal.Value.run m' g')
  obtain ⟨a0, a1, a2, a3, a4⟩ := hagree c
  obtain ⟨h0, hargs⟩ := h c
  refine ⟨h0.trans ?_, hargs⟩
  rw [a0, a1, a2, a3, a4]
  refine Eq.trans ?_ (Cert.Kernel6Ideal.Merge.final6 m c).symm
  funext i
  obtain ⟨r, j, rfl⟩ : ∃ (r : Fin 16640) (j : Fin 4096), i = ix2 r j := ⟨i 0, i 1, eq_ix2 i⟩
  exact merge_read _ _ _ _ _ r j

end Cert.Reference6Ideal.Entry

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Final
public import proofs.«01_k».proof.Proof.RefOut
public import proofs.«01_k».proof.Proof.Pre
public import Idealize.ShloMosaic.Lib.Quiescent
public import Idealize.ShloMosaic.Adequacy
public import Idealize.ShloMosaic.Init
public import proofs.«01_k».proof.Proof.UpRef
public import proofs.«01_k».proof.Proof.DownRef
public import proofs.«01_k».proof.Proof.NormRef
public import proofs.«01_k».proof.Proof.Frames
public import proofs.«01_k».proof.Proof.InRef
public import proofs.«01_k».proof.Proof.MergeRef

@[expose] public section

noncomputable section

namespace Cert.Proof

open Idealize.ShloMosaic Idealize.ShloMosaic.TcCoe Idealize.SL.Sem

/-- The reference terminates, keeps its arguments and owns no semaphore, whatever the memory. -/
theorem frame_reference : Cert.quiescent_ReferenceIdeal := fun m g _ => (θ_run Cert.ReferenceIdeal.defs _ _).mono
  (fun r h => And.intro (fun c => (h c).2.2) (Idealize.ShloMosaic.sem_eq_zero_of_no_sems (by decide) r.2)) (Cert.ReferenceIdeal.Value.run m g)

/-- From memories that agree on the arguments, real where the precondition says so, the kernel's mixer output and rounded weight are the reference's. -/
theorem algebraic : Cert.algebraic_KernelIdeal_ReferenceIdeal_pre_gla_finite (hPre_gla_finite := Cert.Pre_gla_finite.facts) := by
  intro m g m' g' hpre hagree
  refine ⟨fun c => (Cert.KernelIdeal.Gen.dats m 0 c).arrAt 8 Cert.KernelIdeal.cfg0.N, fun c => (Cert.KernelIdeal.Gen.dats m 0 c).arrAt 9 Cert.KernelIdeal.cfg0.N,
    Cert.KernelIdeal.Value.run_blocks m g, ?_⟩
  refine (θ_run Cert.ReferenceIdeal.defs _ _).mono (fun r h c => ?_) (Cert.ReferenceIdeal.Value.run m' g')
  obtain ⟨a0, a1, a2, a3, a4, a5⟩ := hagree c
  obtain ⟨h47, h50, hargs⟩ := h c
  obtain ⟨P, S, W, B, H⟩ := Cert.Pre_gla_finite.finite _ _ _ _ _ _ (hpre c)
  refine ⟨h47.trans ?_, h50.trans ?_, hargs⟩
  · refine Eq.trans ?_ (Cert.KernelIdeal.Chunk.final8 m c H).symm
    funext i
    obtain ⟨b, t, j, rfl⟩ : ∃ (b : Fin 2) (t : Fin 8320) (j : Fin 1024), i = ix3 b t j := ⟨i 0, i 1, i 2, eq_ix3 i⟩
    exact Cert.ReferenceIdeal.Loop.reference_out m' c _ _ _ _ _ a0 a1 a2 a3 a4 H b t j
  · refine Eq.trans ?_ (Cert.KernelIdeal.Chunk.final9 m c).symm
    funext i
    obtain ⟨k, j, rfl⟩ : ∃ (k : Fin 4096) (j : Fin 16384), i = ix2 k j := ⟨i 0, i 1, eq_ix2 i⟩
    exact Cert.ReferenceIdeal.Loop.reference_cast m' c _ a5 k j

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_gla_finite.facts, Cert.Pre_up_sums_nonneg.facts, Cert.Pre_in_sums_nonneg.facts,
  fun m g _ => Cert.Kernel.Gen.frame m g, fun m g _ => Cert.KernelIdeal.Gen.frame m g, fun m g _ => Cert.KernelIdeal.Gen.frame m g,
  frame_reference, fun m g _ => frame_reference m g trivial,
  Cert.Frames.frame2, fun m g _ => Cert.Kernel2Ideal.Gen.frame m g, fun m g _ => Cert.Kernel2Ideal.Gen.frame m g,
  Cert.Reference2Ideal.Entry.frame, fun m g _ => Cert.Reference2Ideal.Entry.frame m g trivial,
  Cert.Frames.frame3, fun m g _ => Cert.Kernel3Ideal.Gen.frame m g, Cert.Reference3Ideal.Entry.frame,
  Cert.Frames.frame4, fun m g _ => Cert.Kernel4Ideal.Gen.frame m g, Cert.Reference4Ideal.Entry.frame,
  Cert.Frames.frame5, fun m g _ => Cert.Kernel5Ideal.InProj.frame m g, fun m g _ => Cert.Kernel5Ideal.InProj.frame m g,
  Cert.Reference5Ideal.Entry.frame, fun m g _ => Cert.Reference5Ideal.Entry.frame m g trivial,
  Cert.Frames.frame6, fun m g _ => Cert.Kernel6Ideal.Gen.frame m g, Cert.Reference6Ideal.Entry.frame,
  trivial, algebraic, trivial, Cert.Reference2Ideal.Entry.algebraic, trivial, Cert.Reference3Ideal.Entry.algebraic,
  trivial, Cert.Reference4Ideal.Entry.algebraic,
  trivial, Cert.Reference5Ideal.Entry.algebraic,
  trivial, Cert.Reference6Ideal.Entry.algebraic⟩

end Cert.Proof

end
